-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x4096x7 : Shape := ⟨3, ![32, 4096, 7]⟩
abbrev S73x6x3 : Shape := ⟨3, ![73, 6, 3]⟩
abbrev S73 : Shape := ⟨1, ![73]⟩
abbrev S1x6x3 : Shape := ⟨3, ![1, 6, 3]⟩
abbrev S1 : Shape := ⟨1, ![1]⟩
abbrev S73x18 : Shape := ⟨2, ![73, 18]⟩
abbrev S1x18 : Shape := ⟨2, ![1, 18]⟩
abbrev S8x7 : Shape := ⟨2, ![8, 7]⟩
abbrev S_ : Shape := ⟨0, ![]⟩
abbrev S1x8x7x1 : Shape := ⟨4, ![1, 8, 7, 1]⟩
abbrev S18x73 : Shape := ⟨2, ![18, 73]⟩
abbrev S18x1x1x73 : Shape := ⟨4, ![18, 1, 1, 73]⟩
abbrev S18x8x7x73 : Shape := ⟨4, ![18, 8, 7, 73]⟩
abbrev S18x8x511 : Shape := ⟨3, ![18, 8, 511]⟩
abbrev S8 : Shape := ⟨1, ![8]⟩
abbrev S1x8x1 : Shape := ⟨3, ![1, 8, 1]⟩
abbrev S18x1 : Shape := ⟨2, ![18, 1]⟩
abbrev S18x1x1 : Shape := ⟨3, ![18, 1, 1]⟩
abbrev S18x8x1 : Shape := ⟨3, ![18, 8, 1]⟩
abbrev S18x8x512 : Shape := ⟨3, ![18, 8, 512]⟩
abbrev S144x512 : Shape := ⟨2, ![144, 512]⟩
abbrev S1x73 : Shape := ⟨2, ![1, 73]⟩
abbrev S7x73 : Shape := ⟨2, ![7, 73]⟩
abbrev S511 : Shape := ⟨1, ![511]⟩
abbrev S512 : Shape := ⟨1, ![512]⟩
abbrev S18 : Shape := ⟨1, ![18]⟩
abbrev S128 : Shape := ⟨1, ![128]⟩
abbrev S1x128 : Shape := ⟨2, ![1, 128]⟩
abbrev S18x128 : Shape := ⟨2, ![18, 128]⟩
abbrev S18x8x128 : Shape := ⟨3, ![18, 8, 128]⟩
abbrev S144x128 : Shape := ⟨2, ![144, 128]⟩
abbrev S32x7x4096 : Shape := ⟨3, ![32, 7, 4096]⟩
abbrev S32x8x4096 : Shape := ⟨3, ![32, 8, 4096]⟩
abbrev S32x4096x512 : Shape := ⟨3, ![32, 4096, 512]⟩
abbrev S2x8x4096 : Shape := ⟨3, ![2, 8, 4096]⟩
abbrev S2x4096x512 : Shape := ⟨3, ![2, 4096, 512]⟩
abbrev S144x4096 : Shape := ⟨2, ![144, 4096]⟩
abbrev S8x4096 : Shape := ⟨2, ![8, 4096]⟩
abbrev S1x8x4096 : Shape := ⟨3, ![1, 8, 4096]⟩
abbrev S4096x512 : Shape := ⟨2, ![4096, 512]⟩
abbrev S1x4096x512 : Shape := ⟨3, ![1, 4096, 512]⟩

abbrev nBuf : Space → Nat
  | .hbm => 141
  | .vmem => 8
  | .smem => 0
  | _ => 0

abbrev hbmTy0_0 (i : Nat) : BufTy := match i % 128 with
  | 0 => ⟨S32x4096x7, .f32⟩
  | 1 => ⟨S73x6x3, .f32⟩
  | 2 => ⟨S73, .f32⟩
  | 3 => ⟨S1x6x3, .f32⟩
  | 4 => ⟨S1, .f32⟩
  | 5 => ⟨S73x6x3, .f32⟩
  | 6 => ⟨S73x18, .f32⟩
  | 7 => ⟨S1x6x3, .f32⟩
  | 8 => ⟨S1x18, .f32⟩
  | 9 => ⟨S8x7, .i32⟩
  | 10 => ⟨S8x7, .i32⟩
  | 11 => ⟨S_, .i32⟩
  | 12 => ⟨S8x7, .i32⟩
  | 13 => ⟨S8x7, .i32⟩
  | 14 => ⟨S8x7, .i1⟩
  | 15 => ⟨S8x7, .f32⟩
  | 16 => ⟨S1x8x7x1, .f32⟩
  | 17 => ⟨S18x73, .f32⟩
  | 18 => ⟨S18x1x1x73, .f32⟩
  | 19 => ⟨S18x8x7x73, .f32⟩
  | 20 => ⟨S18x8x7x73, .f32⟩
  | 21 => ⟨S18x8x7x73, .f32⟩
  | 22 => ⟨S18x8x511, .f32⟩
  | 23 => ⟨S8, .i32⟩
  | 24 => ⟨S_, .i32⟩
  | 25 => ⟨S8, .i32⟩
  | 26 => ⟨S8, .i1⟩
  | 27 => ⟨S8, .f32⟩
  | 28 => ⟨S1x8x1, .f32⟩
  | 29 => ⟨S18x1, .f32⟩
  | 30 => ⟨S18x1x1, .f32⟩
  | 31 => ⟨S18x8x1, .f32⟩
  | 32 => ⟨S18x8x1, .f32⟩
  | 33 => ⟨S18x8x1, .f32⟩
  | 34 => ⟨S18x8x512, .f32⟩
  | 35 => ⟨S144x512, .f32⟩
  | 36 => ⟨S1x73, .f32⟩
  | 37 => ⟨S7x73, .f32⟩
  | 38 => ⟨S511, .f32⟩
  | 39 => ⟨S512, .f32⟩
  | 40 => ⟨S_, .i32⟩
  | 41 => ⟨S1, .i32⟩
  | 42 => ⟨S144x512, .f32⟩
  | 43 => ⟨S144x512, .bf16⟩
  | 44 => ⟨S18, .i32⟩
  | 45 => ⟨S_, .i32⟩
  | 46 => ⟨S18, .i32⟩
  | 47 => ⟨S18, .i32⟩
  | 48 => ⟨S_, .i32⟩
  | 49 => ⟨S18, .i32⟩
  | 50 => ⟨S18, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S18, .i32⟩
  | 58 => ⟨S18, .i32⟩
  | 59 => ⟨S_, .i32⟩
  | 60 => ⟨S18, .i32⟩
  | 61 => ⟨S18, .i1⟩
  | 62 => ⟨S_, .i32⟩
  | 63 => ⟨S18, .i32⟩
  | 64 => ⟨S18, .i1⟩
  | 65 => ⟨S_, .i32⟩
  | 66 => ⟨S_, .i1⟩
  | 67 => ⟨S18, .i1⟩
  | 68 => ⟨S18, .i1⟩
  | 69 => ⟨S18, .i1⟩
  | 70 => ⟨S18, .i32⟩
  | 71 => ⟨S18, .i32⟩
  | 72 => ⟨S18, .i32⟩
  | 73 => ⟨S128, .i32⟩
  | 74 => ⟨S18x1, .i32⟩
  | 75 => ⟨S_, .i32⟩
  | 76 => ⟨S18x1, .i32⟩
  | 77 => ⟨S18x1, .i1⟩
  | 78 => ⟨S_, .i32⟩
  | 79 => ⟨S128, .i32⟩
  | 80 => ⟨S128, .i1⟩
  | 81 => ⟨S_, .i32⟩
  | 82 => ⟨S128, .i32⟩
  | 83 => ⟨S128, .i1⟩
  | 84 => ⟨S128, .i1⟩
  | 85 => ⟨S1x128, .i1⟩
  | 86 => ⟨S18x1, .i32⟩
  | 87 => ⟨S_, .i32⟩
  | 88 => ⟨S18x1, .i32⟩
  | 89 => ⟨S18x1, .i1⟩
  | 90 => ⟨S_, .i32⟩
  | 91 => ⟨S128, .i32⟩
  | 92 => ⟨S128, .i1⟩
  | 93 => ⟨S1x128, .i1⟩
  | 94 => ⟨S_, .i32⟩
  | 95 => ⟨S128, .i32⟩
  | 96 => ⟨S128, .i1⟩
  | 97 => ⟨S1x128, .i1⟩
  | 98 => ⟨S18x128, .i1⟩
  | 99 => ⟨S18x128, .i1⟩
  | 100 => ⟨S18x128, .i1⟩
  | 101 => ⟨S18x128, .i1⟩
  | 102 => ⟨S18x128, .i1⟩
  | 103 => ⟨S18x128, .i1⟩
  | 104 => ⟨S18x128, .i1⟩
  | 105 => ⟨S18x128, .f32⟩
  | 106 => ⟨S18x8x128, .f32⟩
  | 107 => ⟨S144x128, .f32⟩
  | 108 => ⟨S18x1, .i32⟩
  | 109 => ⟨S_, .i32⟩
  | 110 => ⟨S18x1, .i32⟩
  | 111 => ⟨S18x1, .i1⟩
  | 112 => ⟨S_, .i32⟩
  | 113 => ⟨S128, .i32⟩
  | 114 => ⟨S128, .i1⟩
  | 115 => ⟨S1x128, .i1⟩
  | 116 => ⟨S18x128, .i1⟩
  | 117 => ⟨S18x128, .i1⟩
  | 118 => ⟨S18x128, .i1⟩
  | 119 => ⟨S_, .f32⟩
  | 120 => ⟨S_, .f32⟩
  | 121 => ⟨S18x128, .f32⟩
  | 122 => ⟨S18x128, .f32⟩
  | 123 => ⟨S18x128, .f32⟩
  | 124 => ⟨S18x8x128, .f32⟩
  | 125 => ⟨S144x128, .f32⟩
  | 126 => ⟨S_, .i32⟩
  | 127 => ⟨S1, .i32⟩
  | _ => ⟨S32x4096x7, .f32⟩

abbrev hbmTy0_1 (i : Nat) : BufTy := match i % 128 with
  | 0 => ⟨S_, .f32⟩
  | 1 => ⟨S128, .f32⟩
  | 2 => ⟨S144x128, .f32⟩
  | 3 => ⟨S_, .i32⟩
  | 4 => ⟨S1, .i32⟩
  | 5 => ⟨S_, .f32⟩
  | 6 => ⟨S128, .f32⟩
  | 7 => ⟨S144x128, .f32⟩
  | 8 => ⟨S32x7x4096, .f32⟩
  | 9 => ⟨S_, .i32⟩
  | 10 => ⟨S_, .f32⟩
  | 11 => ⟨S32x8x4096, .f32⟩
  | 12 => ⟨S32x4096x512, .f32⟩
  | _ => ⟨S32x4096x7, .f32⟩

abbrev hbmTy (i : Nat) : BufTy := match i / 128 with
  | 0 => hbmTy0_0 i
  | 1 => hbmTy0_1 i
  | _ => ⟨S32x4096x7, .f32⟩

abbrev bufTy : (tb : Table) → Fin (tcTables nBuf tb) → BufTy
  | .hbm, ⟨i, _⟩ => hbmTy i
  | .local _ .vmem, ⟨0, _⟩ => ⟨S2x8x4096, .f32⟩
  | .local _ .vmem, ⟨1, _⟩ => ⟨S2x8x4096, .f32⟩
  | .local _ .vmem, ⟨2, _⟩ => ⟨S144x512, .bf16⟩
  | .local _ .vmem, ⟨3, _⟩ => ⟨S144x128, .f32⟩
  | .local _ .vmem, ⟨4, _⟩ => ⟨S144x128, .f32⟩
  | .local _ .vmem, ⟨5, _⟩ => ⟨S2x4096x512, .f32⟩
  | .local _ .vmem, ⟨6, _⟩ => ⟨S2x4096x512, .f32⟩
  | .local _ .vmem, ⟨7, _⟩ => ⟨S144x4096, .f32⟩
  | _, _ => ⟨S32x4096x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_2 : Ref sig .tc := ⟨.hbm, 45, rfl⟩
abbrev main_v37 : Ref sig .tc := ⟨.hbm, 46, rfl⟩
abbrev main_v38 : Ref sig .tc := ⟨.hbm, 47, rfl⟩
abbrev main_c_3 : Ref sig .tc := ⟨.hbm, 48, rfl⟩
abbrev main_v39 : Ref sig .tc := ⟨.hbm, 49, rfl⟩
abbrev main_v40 : Ref sig .tc := ⟨.hbm, 50, rfl⟩
abbrev main_c_4 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_c_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_c_1 : Ref sig .tc := ⟨.hbm, 59, rfl⟩
abbrev main_call0_v5 : Ref sig .tc := ⟨.hbm, 60, rfl⟩
abbrev main_call0_v6 : Ref sig .tc := ⟨.hbm, 61, rfl⟩
abbrev main_call0_c_2 : Ref sig .tc := ⟨.hbm, 62, rfl⟩
abbrev main_call0_v7 : Ref sig .tc := ⟨.hbm, 63, rfl⟩
abbrev main_call0_v8 : Ref sig .tc := ⟨.hbm, 64, rfl⟩
abbrev main_call0_c_3 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_v12 : Ref sig .tc := ⟨.hbm, 69, rfl⟩
abbrev main_call0_v13 : Ref sig .tc := ⟨.hbm, 70, rfl⟩
abbrev main_call0_v14 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_5 : Ref sig .tc := ⟨.hbm, 75, rfl⟩
abbrev main_v44 : Ref sig .tc := ⟨.hbm, 76, rfl⟩
abbrev main_v45 : Ref sig .tc := ⟨.hbm, 77, rfl⟩
abbrev main_c_6 : Ref sig .tc := ⟨.hbm, 78, rfl⟩
abbrev main_v46 : Ref sig .tc := ⟨.hbm, 79, rfl⟩
abbrev main_v47 : Ref sig .tc := ⟨.hbm, 80, rfl⟩
abbrev main_c_7 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_8 : Ref sig .tc := ⟨.hbm, 87, rfl⟩
abbrev main_v53 : Ref sig .tc := ⟨.hbm, 88, rfl⟩
abbrev main_v54 : Ref sig .tc := ⟨.hbm, 89, rfl⟩
abbrev main_c_9 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_10 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v61 : Ref sig .tc := ⟨.hbm, 101, rfl⟩
abbrev main_call2_v0 : Ref sig .tc := ⟨.hbm, 102, rfl⟩
abbrev main_call2_v1 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_11 : Ref sig .tc := ⟨.hbm, 109, rfl⟩
abbrev main_v67 : Ref sig .tc := ⟨.hbm, 110, rfl⟩
abbrev main_v68 : Ref sig .tc := ⟨.hbm, 111, rfl⟩
abbrev main_c_12 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst : Ref sig .tc := ⟨.hbm, 119, rfl⟩
abbrev main_cst_13 : Ref sig .tc := ⟨.hbm, 120, rfl⟩
abbrev main_call3_v0 : Ref sig .tc := ⟨.hbm, 121, rfl⟩
abbrev main_call3_v1 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_c_14 : Ref sig .tc := ⟨.hbm, 126, rfl⟩
abbrev main_v78 : Ref sig .tc := ⟨.hbm, 127, rfl⟩
abbrev main_cst_15 : Ref sig .tc := ⟨.hbm, 128, rfl⟩
abbrev main_v79 : Ref sig .tc := ⟨.hbm, 129, rfl⟩
abbrev main_v80 : Ref sig .tc := ⟨.hbm, 130, rfl⟩
abbrev main_c_16 : Ref sig .tc := ⟨.hbm, 131, rfl⟩
abbrev main_v81 : Ref sig .tc := ⟨.hbm, 132, rfl⟩
abbrev main_cst_17 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_c_18 : Ref sig .tc := ⟨.hbm, 137, rfl⟩
abbrev main_call4_v0 : Ref sig .tc := ⟨.hbm, 138, rfl⟩
abbrev main_v85 : Ref sig .tc := ⟨.hbm, 139, rfl⟩
abbrev main_v86 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S144x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x4096x7 : Shape := ⟨3, ![32, 4096, 7]⟩
abbrev S73x6x3 : Shape := ⟨3, ![73, 6, 3]⟩
abbrev S73 : Shape := ⟨1, ![73]⟩
abbrev S1x6x3 : Shape := ⟨3, ![1, 6, 3]⟩
abbrev S1 : Shape := ⟨1, ![1]⟩
abbrev S4081 : Shape := ⟨1, ![4081]⟩
abbrev S_ : Shape := ⟨0, ![]⟩
abbrev S4081x1 : Shape := ⟨2, ![4081, 1]⟩
abbrev S6 : Shape := ⟨1, ![6]⟩
abbrev S1x6 : Shape := ⟨2, ![1, 6]⟩
abbrev S4081x6 : Shape := ⟨2, ![4081, 6]⟩
abbrev S4081x6x1 : Shape := ⟨3, ![4081, 6, 1]⟩
abbrev S32x4081x6x7 : Shape := ⟨4, ![32, 4081, 6, 7]⟩
abbrev S32x4081x7x6 : Shape := ⟨4, ![32, 4081, 7, 6]⟩
abbrev S32x4081x42 : Shape := ⟨3, ![32, 4081, 42]⟩
abbrev S32x4096x42 : Shape := ⟨3, ![32, 4096, 42]⟩
abbrev S32x4096x7x6 : Shape := ⟨4, ![32, 4096, 7, 6]⟩
abbrev S32x7x6x4096 : Shape := ⟨4, ![32, 7, 6, 4096]⟩
abbrev S224x6x4096 : Shape := ⟨3, ![224, 6, 4096]⟩
abbrev S224x6x1 : Shape := ⟨3, ![224, 6, 1]⟩
abbrev S224x6x4098 : Shape := ⟨3, ![224, 6, 4098]⟩
abbrev S73x6x1 : Shape := ⟨3, ![73, 6, 1]⟩
abbrev S73x6 : Shape := ⟨2, ![73, 6]⟩
abbrev S73x224x4096 : Shape := ⟨3, ![73, 224, 4096]⟩
abbrev S224x73x4096 : Shape := ⟨3, ![224, 73, 4096]⟩
abbrev S1x73x1 : Shape := ⟨3, ![1, 73, 1]⟩
abbrev S32x511x4096 : Shape := ⟨3, ![32, 511, 4096]⟩
abbrev S32x1x6x4096 : Shape := ⟨4, ![32, 1, 6, 4096]⟩
abbrev S32x6x4096 : Shape := ⟨3, ![32, 6, 4096]⟩
abbrev S32x6x1 : Shape := ⟨3, ![32, 6, 1]⟩
abbrev S32x6x4098 : Shape := ⟨3, ![32, 6, 4098]⟩
abbrev S1x6x1 : Shape := ⟨3, ![1, 6, 1]⟩
abbrev S1x32x4096 : Shape := ⟨3, ![1, 32, 4096]⟩
abbrev S32x1x4096 : Shape := ⟨3, ![32, 1, 4096]⟩
abbrev S1x1x1 : Shape := ⟨3, ![1, 1, 1]⟩
abbrev S32x512x4096 : Shape := ⟨3, ![32, 512, 4096]⟩
abbrev S32x4096x512 : Shape := ⟨3, ![32, 4096, 512]⟩

abbrev nBuf : Space → Nat
  | .hbm => 93
  | .vmem => 0
  | .smem => 0
  | _ => 0

abbrev bufTy : (tb : Table) → Fin (tcTables nBuf tb) → BufTy
  | .hbm, ⟨0, _⟩ => ⟨S32x4096x7, .f32⟩
  | .hbm, ⟨1, _⟩ => ⟨S73x6x3, .f32⟩
  | .hbm, ⟨2, _⟩ => ⟨S73, .f32⟩
  | .hbm, ⟨3, _⟩ => ⟨S1x6x3, .f32⟩
  | .hbm, ⟨4, _⟩ => ⟨S1, .f32⟩
  | .hbm, ⟨5, _⟩ => ⟨S4081, .i32⟩
  | .hbm, ⟨6, _⟩ => ⟨S_, .i32⟩
  | .hbm, ⟨7, _⟩ => ⟨S4081, .i32⟩
  | .hbm, ⟨8, _⟩ => ⟨S4081, .i32⟩
  | .hbm, ⟨9, _⟩ => ⟨S4081x1, .i32⟩
  | .hbm, ⟨10, _⟩ => ⟨S6, .i32⟩
  | .hbm, ⟨11, _⟩ => ⟨S1x6, .i32⟩
  | .hbm, ⟨12, _⟩ => ⟨S_, .i32⟩
  | .hbm, ⟨13, _⟩ => ⟨S1x6, .i32⟩
  | .hbm, ⟨14, _⟩ => ⟨S1x6, .i32⟩
  | .hbm, ⟨15, _⟩ => ⟨S4081x6, .i32⟩
  | .hbm, ⟨16, _⟩ => ⟨S4081x6, .i32⟩
  | .hbm, ⟨17, _⟩ => ⟨S4081x6, .i32⟩
  | .hbm, ⟨18, _⟩ => ⟨S_, .i32⟩
  | .hbm, ⟨19, _⟩ => ⟨S4081x6, .i32⟩
  | .hbm, ⟨20, _⟩ => ⟨S4081x6, .i1⟩
  | .hbm, ⟨21, _⟩ => ⟨S_, .i32⟩
  | .hbm, ⟨22, _⟩ => ⟨S4081x6, .i32⟩
  | .hbm, ⟨23, _⟩ => ⟨S4081x6, .i32⟩
  | .hbm, ⟨24, _⟩ => ⟨S4081x6, .i32⟩
  | .hbm, ⟨25, _⟩ => ⟨S4081x6x1, .i32⟩
  | .hbm, ⟨26, _⟩ => ⟨S32x4081x6x7, .f32⟩
  | .hbm, ⟨27, _⟩ => ⟨S32x4081x7x6, .f32⟩
  | .hbm, ⟨28, _⟩ => ⟨S32x4081x42, .f32⟩
  | .hbm, ⟨29, _⟩ => ⟨S_, .i32⟩
  | .hbm, ⟨30, _⟩ => ⟨S_, .f32⟩
  | .hbm, ⟨31, _⟩ => ⟨S32x4096x42, .f32⟩
  | .hbm, ⟨32, _⟩ => ⟨S32x4096x7x6, .f32⟩
  | .hbm, ⟨33, _⟩ => ⟨S32x7x6x4096, .f32⟩
  | .hbm, ⟨34, _⟩ => ⟨S224x6x4096, .f32⟩
  | .hbm, ⟨35, _⟩ => ⟨S224x6x1, .f32⟩
  | .hbm, ⟨36, _⟩ => ⟨S224x6x1, .f32⟩
  | .hbm, ⟨37, _⟩ => ⟨S224x6x4098, .f32⟩
  | .hbm, ⟨38, _⟩ => ⟨S224x6x4096, .f32⟩
  | .hbm, ⟨39, _⟩ => ⟨S73x6x1, .f32⟩
  | .hbm, ⟨40, _⟩ => ⟨S73x6, .f32⟩
  | .hbm, ⟨41, _⟩ => ⟨S73x224x4096, .f32⟩
  | .hbm, ⟨42, _⟩ => ⟨S224x73x4096, .f32⟩
  | .hbm, ⟨43, _⟩ => ⟨S_, .f32⟩
  | .hbm, ⟨44, _⟩ => ⟨S224x73x4096, .f32⟩
  | .hbm, ⟨45, _⟩ => ⟨S224x73x4096, .f32⟩
  | .hbm, ⟨46, _⟩ => ⟨S224x6x4096, .f32⟩
  | .hbm, ⟨47, _⟩ => ⟨S73x6x1, .f32⟩
  | .hbm, ⟨48, _⟩ => ⟨S73x6, .f32⟩
  | .hbm, ⟨49, _⟩ => ⟨S73x224x4096, .f32⟩
  | .hbm, ⟨50, _⟩ => ⟨S224x73x4096, .f32⟩
  | .hbm, ⟨51, _⟩ => ⟨S224x73x4096, .f32⟩
  | .hbm, ⟨52, _⟩ => ⟨S224x6x4096, .f32⟩
  | .hbm, ⟨53, _⟩ => ⟨S73x6x1, .f32⟩
  | .hbm, ⟨54, _⟩ => ⟨S73x6, .f32⟩
  | .hbm, ⟨55, _⟩ => ⟨S73x224x4096, .f32⟩
  | .hbm, ⟨56, _⟩ => ⟨S224x73x4096, .f32⟩
  | .hbm, ⟨57, _⟩ => ⟨S224x73x4096, .f32⟩
  | .hbm, ⟨58, _⟩ => ⟨S1x73x1, .f32⟩
  | .hbm, ⟨59, _⟩ => ⟨S224x73x4096, .f32⟩
  | .hbm, ⟨60, _⟩ => ⟨S224x73x4096, .f32⟩
  | .hbm, ⟨61, _⟩ => ⟨S32x511x4096, .f32⟩
  | .hbm, ⟨62, _⟩ => ⟨S32x7x6x4096, .f32⟩
  | .hbm, ⟨63, _⟩ => ⟨S32x1x6x4096, .f32⟩
  | .hbm, ⟨64, _⟩ => ⟨S32x6x4096, .f32⟩
  | .hbm, ⟨65, _⟩ => ⟨S32x6x1, .f32⟩
  | .hbm, ⟨66, _⟩ => ⟨S32x6x1, .f32⟩
  | .hbm, ⟨67, _⟩ => ⟨S32x6x4098, .f32⟩
  | .hbm, ⟨68, _⟩ => ⟨S32x6x4096, .f32⟩
  | .hbm, ⟨69, _⟩ => ⟨S1x6x1, .f32⟩
  | .hbm, ⟨70, _⟩ => ⟨S1x6, .f32⟩
  | .hbm, ⟨71, _⟩ => ⟨S1x32x4096, .f32⟩
  | .hbm, ⟨72, _⟩ => ⟨S32x1x4096, .f32⟩
  | .hbm, ⟨73, _⟩ => ⟨S_, .f32⟩
  | .hbm, ⟨74, _⟩ => ⟨S32x1x4096, .f32⟩
  | .hbm, ⟨75, _⟩ => ⟨S32x1x4096, .f32⟩
  | .hbm, ⟨76, _⟩ => ⟨S32x6x4096, .f32⟩
  | .hbm, ⟨77, _⟩ => ⟨S1x6x1, .f32⟩
  | .hbm, ⟨78, _⟩ => ⟨S1x6, .f32⟩
  | .hbm, ⟨79, _⟩ => ⟨S1x32x4096, .f32⟩
  | .hbm, ⟨80, _⟩ => ⟨S32x1x4096, .f32⟩
  | .hbm, ⟨81, _⟩ => ⟨S32x1x4096, .f32⟩
  | .hbm, ⟨82, _⟩ => ⟨S32x6x4096, .f32⟩
  | .hbm, ⟨83, _⟩ => ⟨S1x6x1, .f32⟩
  | .hbm, ⟨84, _⟩ => ⟨S1x6, .f32⟩
  | .hbm, ⟨85, _⟩ => ⟨S1x32x4096, .f32⟩
  | .hbm, ⟨86, _⟩ => ⟨S32x1x4096, .f32⟩
  | .hbm, ⟨87, _⟩ => ⟨S32x1x4096, .f32⟩
  | .hbm, ⟨88, _⟩ => ⟨S1x1x1, .f32⟩
  | .hbm, ⟨89, _⟩ => ⟨S32x1x4096, .f32⟩
  | .hbm, ⟨90, _⟩ => ⟨S32x1x4096, .f32⟩
  | .hbm, ⟨91, _⟩ => ⟨S32x512x4096, .f32⟩
  | .hbm, ⟨92, _⟩ => ⟨S32x4096x512, .f32⟩
  | _, _ => ⟨S32x4096x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_4 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩

abbrev nD : Nat := 1
abbrev τ : Topo := Topo.v7x

variable {F : FTy → Type} [FloatOps F]
-- ==== Proof.Tap.lean ====
/-
  What the kernel's scratch buffer holds when the matrix unit reads it: eighteen circular shifts of one 8-row slab stacked into
  144 rows, one row of ones among them, with the first and the last 128 columns multiplied by two masks.
-/
module

public import proofs.«01_k».proof.Proof.Gen.KernelIdeal.Value
public import Idealize.ShloMosaic.Lib.Pointwise
public import Idealize.ShloMosaic.Lib.Pipeline.ValueKit
public import Idealize.ShloMosaic.Lib.Pipeline.ReadBack
public import Idealize.ShloMosaic.Lib.WholeRead
public import Idealize.ShloMosaic.Lib.StableHlo.Predicate

@[expose] public section

set_option maxRecDepth 16384

noncomputable section

namespace Cert.KernelIdeal.Tap

open Cert.KernelIdeal Cert.KernelIdeal.Gen Idealize.ShloMosaic Idealize.ShloMosaic.TcCoe Idealize.SL.Sem

/-! ## The contents as one function of the slab and the masks -/

/-- Row `8·g + s` of the stack before masking: row `s` of the slab, turned right by `16 − g` columns; row 7 is all ones. -/
def turned (X : Vec Ideal S8x4096 .f32) : Vec Ideal S144x4096 .f32 := fun y =>
  if (y 0).val = 7 then (1 : EReal)
  else X (ix2 ⟨(y 0).val % 8, Nat.mod_lt _ (by decide)⟩ ⟨((y 1).val + 4080 + (y 0).val / 8) % 4096, Nat.mod_lt _ (by decide)⟩)

/-- The stack with its first 128 columns multiplied by the mask `hm`. -/
def headed (X : Vec Ideal S8x4096 .f32) (hm : Vec Ideal S144x128 .f32) : Vec Ideal S144x4096 .f32 := fun y =>
  if h : (y 1).val < 128 then (turned X y * hm (ix2 (y 0) ⟨(y 1).val, h⟩) : EReal) else turned X y

/-- The same with its last 128 columns multiplied by the mask `tm`. -/
def masked (X : Vec Ideal S8x4096 .f32) (hm tm : Vec Ideal S144x128 .f32) : Vec Ideal S144x4096 .f32 := fun y =>
  if 3968 ≤ (y 1).val then (headed X hm y * tm (ix2 (y 0) ⟨((y 1).val - 3968) % 128, Nat.mod_lt _ (by decide)⟩) : EReal) else headed X hm y

/-! ## Stores over stores -/

/-- The contents after one more store through a unit-stride rectangle: what the store put there inside it, the earlier contents outside. -/
theorem canon_over {s : Shape} {e : EltTy} {Val : EltTy → Type} [∀ e, Nonempty (Val e)] {off size : Fin s.rank → Nat}
    {inb : ∀ a, off a + size a ≤ s.size a} {w : (Rect.unit off size inb).shape.Idx → Val e} {L : List (View.Piece Val s e)} {y : s.Idx} {v : Val e}
    (h1 : View.TileAt y off size w v) (h2 : (¬ ∀ a, off a ≤ (y a).val ∧ (y a).val < off a + size a) → View.canon L y = v) :
    View.canon (⟨Rect.unit off size inb, w⟩ :: L) y = v := by
  by_cases hm : y ∈ (Rect.unit off size inb).set
  · obtain ⟨x, rfl⟩ := (Rect.unit off size inb).exists_idx_of_mem hm
    rw [show (Rect.unit off size inb).idx x = (Rect.unit off size inb).emb x from rfl, View.canon_cons_emb]
    exact h1 x fun a => Rect.idx_unit_val off size inb x a
  · rw [View.canon_cons_of_not_mem _ _ hm]
    exact h2 fun h => hm (Rect.mem_set_unit.2 h)

/-- The first 128 columns. -/
abbrev headR : Rect S144x4096 := Rect.unit (s := S144x4096) ![0, 0] S144x128.size inb_S144x4096_S144x128_0_0
/-- The last 128 columns. -/
abbrev tailR : Rect S144x4096 := Rect.unit (s := S144x4096) ![0, 3968] S144x128.size inb_S144x4096_S144x128_0_3968
/-- The whole buffer. -/
abbrev wholeR : Rect S144x4096 := Rect.unit (s := S144x4096) ![0, 0] S144x4096.size inb_S144x4096_S144x4096_0_0

/-- A whole-shape read of the contents after the two masked rewrites of the first and of the last 128 columns: the masked stack, when
    the contents before them were the unmasked one. -/
theorem read_masked {κ : Kind} {sp : Space} (v : View sig κ sp S144x4096 .f32) (X : Vec Ideal S8x4096 .f32) (hm tm : Vec Ideal S144x128 .f32)
    (L : List (View.Piece (Elt Ideal) S144x4096 .f32)) (hL : ∀ y, View.canon L y = turned X y)
    (ph pt : Vec Ideal S144x128 .f32 → Vec Ideal S144x128 .f32 → Vec Ideal S144x128 .f32)
    (hph : ∀ a b y, ph a b y = (a y * b y : EReal)) (hpt : ∀ a b y, pt a b y = (a y * b y : EReal)) :
    v.readCov
      (⟨tailR,
          pt (v.readCov
            (⟨headR,
                ph (v.readCov L headR.toLoadRect) hm⟩ :: L)
            tailR.toLoadRect) tm⟩
        :: ⟨headR,
                ph (v.readCov L headR.toLoadRect) hm⟩ :: L)
      wholeR.toLoadRect = masked X hm tm := by
  have hH : ∀ y, View.canon (⟨headR,
      ph (v.readCov L headR.toLoadRect) hm⟩ :: L) y = headed X hm y := by
    intro y
    refine canon_over (fun x hx => ?_) fun hn => ?_
    · have e0 := hx 0
      have e1 := hx 1
      have b1 : (x 1).val < 128 := (x 1).isLt
      simp only [Matrix.cons_val_zero, Matrix.cons_val_one] at e0 e1
      rw [hph, View.readCov_eq_canon']
      show (View.canon L _ * hm x : EReal) = _
      rw [hL]
      unfold headed
      rw [dif_pos (by omega)]
      have hy : headR.toLoadRect.idx x = y := by
        funext a
        refine Fin.ext ((Rect.idx_unit_val _ _ _ x a).trans (hx a).symm)
      rw [hy]
      refine congrArg (fun z => (turned X y * hm z : EReal)) ?_
      funext a
      match a with
      | ⟨0, _⟩ => exact Fin.ext (by show (x 0).val = (y 0).val; omega)
      | ⟨1, _⟩ => exact Fin.ext (by show (x 1).val = (y 1).val; omega)
    · rw [hL]
      unfold headed
      rw [dif_neg]
      intro hlt
      refine hn fun a => ?_
      match a with
      | ⟨0, _⟩ => exact ⟨Nat.zero_le _, by show (y 0).val < 0 + 144; have := (y 0).isLt; change (y 0).val < 144 at this; omega⟩
      | ⟨1, _⟩ => exact ⟨Nat.zero_le _, by show (y 1).val < 0 + 128; omega⟩
  rw [View.readCov_eq_canon']
  funext z
  have hz : wholeR.toLoadRect.idx z = z := by
    funext a
    refine Fin.ext ((Rect.idx_unit_val _ _ _ z a).trans ?_)
    match a with
    | ⟨0, _⟩ => exact Nat.zero_add _
    | ⟨1, _⟩ => exact Nat.zero_add _
  show View.canon _ (wholeR.toLoadRect.idx z) = _
  rw [hz]
  refine canon_over (fun x hx => ?_) fun hn => ?_
  · have e0 := hx 0
    have e1 := hx 1
    have b1 : (x 1).val < 128 := (x 1).isLt
    simp only [Matrix.cons_val_zero, Matrix.cons_val_one] at e0 e1
    rw [hpt, View.readCov_eq_canon']
    show (View.canon (_ :: L) _ * tm x : EReal) = _
    rw [hH]
    unfold masked
    rw [if_pos (by omega)]
    have hy : tailR.toLoadRect.idx x = z := by
      funext a
      refine Fin.ext ((Rect.idx_unit_val _ _ _ x a).trans (hx a).symm)
    rw [hy]
    refine congrArg (fun u => (headed X hm z * tm u : EReal)) ?_
    funext a
    match a with
    | ⟨0, _⟩ => exact Fin.ext (by show (x 0).val = (z 0).val; omega)
    | ⟨1, _⟩ => exact Fin.ext (by show (x 1).val = ((z 1).val - 3968) % 128; omega)
  · rw [hH]
    unfold masked
    rw [if_neg]
    intro hge
    have b1 : (z 1).val < 4096 := (z 1).isLt
    refine hn fun a => ?_
    match a with
    | ⟨0, _⟩ => exact ⟨Nat.zero_le _, by show (z 0).val < 0 + 144; have := (z 0).isLt; change (z 0).val < 144 at this; omega⟩
    | ⟨1, _⟩ => exact ⟨hge, by show (z 1).val < 3968 + 128; omega⟩

/-! ## The eighteen shifts -/

/-- One stored group of eight rows: the slab turned by the literal shift `a`, read where its row is `o + x 0` with `o` the group's first
    row, is the stack there — whenever `a` is `16 − o/8` modulo 4096 and the row is not the row of ones. -/
theorem turn_row (X V : Vec Ideal S8x4096 .f32) (hV : V = X) (a : BitVec 32) (h : S8x4096.Rotates 1 none) (h' : S8x4096.ShapeCasts S8x4096)
    (o : Nat) (hoff : (a.toNat + o / 8) % 4096 = 16) (ho : o % 8 = 0) (hpos : 8 ≤ o) (hlt : o < 144) (ha : a.toNat < 4096)
    (inb : ∀ a, (![o, 0] : Fin 2 → Nat) a + S8x4096.size a ≤ S144x4096.size a) (x : S8x4096.Idx) :
    shapeCast S8x4096 (dynamicRotate 1 a none V h) h' x = turned X ((Rect.unit (s := S144x4096) ![o, 0] S8x4096.size inb).emb x) := by
  subst hV
  have hx := fun b => Rect.idx_unit_val (s := S144x4096) ![o, 0] S8x4096.size inb x b
  change ∀ b : Fin 2, ((Rect.unit (s := S144x4096) ![o, 0] S8x4096.size inb).emb x b).val = _ at hx
  generalize (Rect.unit (s := S144x4096) ![o, 0] S8x4096.size inb).emb x = y at hx ⊢
  have e0 := hx 0
  have e1 := hx 1
  simp only [Matrix.cons_val_zero, Matrix.cons_val_one] at e0 e1
  have b0 : (x 0).val < 8 := (x 0).isLt
  have b1 : (x 1).val < 4096 := (x 1).isLt
  rw [shapeCast_self]
  unfold turned
  rw [if_neg (by omega)]
  unfold dynamicRotate
  refine congrArg V (funext fun b => Fin.ext ?_)
  match b with
  | ⟨0, _⟩ => show (x 0).val = (y 0).val % 8; omega
  | ⟨1, _⟩ =>
    show ((x 1).val + 4096 - (a.toNat + 0) % 4096) % 4096 = ((y 1).val + 4080 + (y 0).val / 8) % 4096
    omega

/-- The first stored group, whose last row is ones: the slab turned by 16, with row 7 replaced. -/
theorem turn_first (X V : Vec Ideal S8x4096 .f32) (hV : V = X) (h : S8x4096.Rotates 1 none) (h' : S8x4096.ShapeCasts S8x4096)
    (inb : ∀ a, (![0, 0] : Fin 2 → Nat) a + S8x4096.size a ≤ S144x4096.size a) (x : S8x4096.Idx) :
    shapeCast S8x4096 (select (cmpi .eq (iota .tc S8x4096 32 [0] iota_S8x4096_d0_w32) (broadcast S8x4096 7#32))
      (broadcast S8x4096 (Scalar.ofBits .f32 0x3F800000#32 : Ideal .f32)) (dynamicRotate 1 16#32 none V h)) h' x = turned X ((Rect.unit (s := S144x4096) ![0, 0] S8x4096.size inb).emb x) := by
  subst hV
  have hx := fun b => Rect.idx_unit_val (s := S144x4096) ![0, 0] S8x4096.size inb x b
  change ∀ b : Fin 2, ((Rect.unit (s := S144x4096) ![0, 0] S8x4096.size inb).emb x b).val = _ at hx
  generalize (Rect.unit (s := S144x4096) ![0, 0] S8x4096.size inb).emb x = y at hx ⊢
  rename' V => X
  have e0 := hx 0
  have e1 := hx 1
  simp only [Matrix.cons_val_zero, Matrix.cons_val_one] at e0 e1
  have b0 : (x 0).val < 8 := (x 0).isLt
  have b1 : (x 1).val < 4096 := (x 1).isLt
  rw [shapeCast_self]
  unfold turned
  have hX : dynamicRotate 1 16#32 none X h x
      = X (ix2 ⟨(y 0).val % 8, Nat.mod_lt _ (by decide)⟩ ⟨((y 1).val + 4080 + (y 0).val / 8) % 4096, Nat.mod_lt _ (by decide)⟩) := by
    unfold dynamicRotate
    refine congrArg X (funext fun b => Fin.ext ?_)
    match b with
    | ⟨0, _⟩ => show (x 0).val = (y 0).val % 8; omega
    | ⟨1, _⟩ =>
      show ((x 1).val + 4096 - (16 + 0) % 4096) % 4096 = ((y 1).val + 4080 + (y 0).val / 8) % 4096
      omega
  rw [← hX]
  pointwise
  by_cases h7 : (x 0).val = 7
  · rw [if_pos (by omega), h7]
    rfl
  · rw [if_neg (by omega)]
    have hne : (BitVec.ofNat 32 (x 0).val) ≠ 7#32 := fun hq => h7 (by
      have := congrArg BitVec.toNat hq
      simp only [BitVec.toNat_ofNat] at this
      omega)
    exact Scalar.select_of_ne_one (fun hc => hne (StableHlo.Predicate.cmpi_eq_iff.1 hc)) _ _

/-! ## The two batches of one grid point -/

variable (m : (ℓ : Loc nD τ sig) → Buf (Elt Ideal) ℓ)

/-- One batch's slab of the two in an input block. -/
def slab (V : Vec Ideal S2x8x4096 .f32) (b : Fin 2) : Vec Ideal S8x4096 .f32 := fun z => V (ix3 b (z 0) (z 1))

/-- The matrix product at an index: column `l` of the stack against column `n` of the weights. -/
theorem product_apply (T : Vec Ideal S144x4096 .f32) (W : Vec Ideal S144x512 .bf16) (x : S1x4096x512.Idx) :
    k0_pay27 T W x = (∑ r : Fin 144, T (ix2 r (x 1)) * W (ix2 r (x 2)) : EReal) := by
  pointwise [k0_pay27]

/-- The product at local index `x` of batch `b`'s part of the output block, written at the block's own index `y`. -/
theorem product_block {T : Fin 2 → Vec Ideal S144x4096 .f32} (W : Vec Ideal S144x512 .bf16) (y : S2x4096x512.Idx) (x : S1x4096x512.Idx) (b : Fin 2)
    (hx : ∀ a : Fin 3, (y a).val = (![b.val, 0, 0] : Fin 3 → Nat) a + (x a).val) :
    k0_pay27 (T b) W x = (∑ r : Fin 144, T (y 0) (ix2 r (y 1)) * W (ix2 r (y 2)) : EReal) := by
  rw [product_apply]
  have hb : y 0 = b := Fin.ext (by have := hx 0; have h1 : (x 0).val < 1 := (x 0).isLt; simp only [Matrix.cons_val_zero] at this; omega)
  have h1 : y 1 = x 1 := Fin.ext ((hx 1).trans (Nat.zero_add _))
  have h2 : y 2 = x 2 := Fin.ext ((hx 2).trans (Nat.zero_add _))
  rw [hb, h1, h2]

/-- The kernel's load of one batch's slab is the slab. -/
theorem slab_load (c : Dev nD) (t : Fin cfg0.N) (b : Fin 2) (inb : ∀ a, (![b.val, 0, 0] : Fin 3 → Nat) a + S1x8x4096.size a ≤ S2x8x4096.size a) :
    k0_pay4 (F := Ideal) (View.readAt (Elt Ideal) (ms0_0 t).view (Rect.unit (s := S2x8x4096) ![b.val, 0, 0] S1x8x4096.size inb).toLoadRect
      ((hs0_0 t).unread (iblk m c 0 t))) = slab (iblk m c 0 t) b := by
  funext z
  pointwise [k0_pay4]
  rw [(hs0_0 t).readAt_unread]
  refine congrArg (iblk m c 0 t : Vec Ideal S2x8x4096 .f32) (funext fun a => Fin.ext ?_)
  refine (Rect.idx_unit_val _ _ _ _ a).trans ?_
  match a with
  | ⟨0, _⟩ => exact Nat.add_zero _
  | ⟨1, _⟩ => exact Nat.zero_add _
  | ⟨2, _⟩ => exact Nat.zero_add _

/-- A load of a whole two-axis buffer is its contents. -/
theorem whole_load {s : Shape} {e : EltTy} {M : Memref sig .tc .vmem s e} (h : M.IsWhole) (X : s.Idx → Elt Ideal e) {off : Fin s.rank → Nat}
    (inb : ∀ a, off a + s.size a ≤ s.size a) (ho : ∀ a, off a = 0) :
    View.readAt (Elt Ideal) M.view (Rect.unit off s.size inb).toLoadRect (h.unread X) = X := by
  funext z
  rw [h.readAt_unread]
  refine congrArg X (funext fun a => Fin.ext ((Rect.idx_unit_val _ _ _ z a).trans ?_))
  rw [ho, Nat.zero_add]

set_option maxHeartbeats 2000000 in
/-- What grid point `t` leaves in the output block, batch `b` of the block's two, at column `n` of output row `l`: the 144-row product of the
    masked stack of the batch's slab with the weights. -/
theorem block_out (c : Dev nD) (t : Fin cfg0.N) (y : S2x4096x512.Idx) :
   (outsAt0 m c t) y = (∑ r : Fin 144, masked (slab (iblk m c 0 t) (y 0)) (iblk m c 2 t) (iblk m c 3 t) (ix2 r (y 1)) * (iblk m c 1 t : Vec Ideal S144x512 .bf16) (ix2 r (y 2)) : EReal) := by
  have hz : ∀ a : Fin 2, (![0, 0] : Fin 2 → Nat) a = 0 := by decide
  have hw := whole_load (hs0_1 t) (iblk m c 1 t) inb_S144x512_S144x512_0_0 hz
  have hh := whole_load (hs0_2 t) (iblk m c 2 t) inb_S144x128_S144x128_0_0 hz
  have ht := whole_load (hs0_3 t) (iblk m c 3 t) inb_S144x128_S144x128_0_0 hz
  have hs0 := slab_load m c t 0 inb_S2x8x4096_S1x8x4096_0_0_0
  have hs1 := slab_load m c t 1 inb_S2x8x4096_S1x8x4096_1_0_0
  unfold outsAt0
  frame_open
  rw [View.read_writes_junk_apply_eq_canon]
  refine View.canon_eq_of_allAt _ _ _ (View.cover_of_tiled_head _ _ _ (by rfl) y) ?_
  refine View.allAt_cons_unit _ _ _ _ _ ?_ (View.allAt_cons_unit _ _ _ _ _ ?_ (View.allAt_nil _ _))
  · intro x hx
    refine Eq.trans (congrFun (congrArg₂ k0_pay3 (read_masked _ (slab (iblk m c 0 t) 1) (iblk m c 2 t) (iblk m c 3 t) _ (fun y => ?_)
      (fun a b => k0_pay1 a (View.readAt (Elt Ideal) (ms0_2 t).view (Rect.unit (s := S144x128) ![0, 0] S144x128.size inb_S144x128_S144x128_0_0).toLoadRect ((hs0_2 t).unread b)))
      (fun a b => k0_pay2 a (View.readAt (Elt Ideal) (ms0_3 t).view (Rect.unit (s := S144x128) ![0, 0] S144x128.size inb_S144x128_S144x128_0_0).toLoadRect ((hs0_3 t).unread b))) ?_ ?_) hw) x) ?_
    · refine View.canon_append_of_piecesOf (turned _) _ [_, _, _, _, _, _, _, _, _, _, _, _, _, _, _, _, _, _] ?_ y (View.cover_of_tiled_head _ _ _ (by rfl) y)
      refine ⟨fun x => ?_, fun x => ?_, fun x => ?_, fun x => ?_, fun x => ?_, fun x => ?_, fun x => ?_, fun x => ?_, fun x => ?_, fun x => ?_,
        fun x => ?_, fun x => ?_, fun x => ?_, fun x => ?_, fun x => ?_, fun x => ?_, fun x => ?_, fun x => ?_, trivial⟩
      on_goal 18 => exact turn_first _ _ hs1 rotates_S8x4096_d1 shapeCasts_S8x4096_S8x4096 inb_S144x4096_S8x4096_0_0 x
      all_goals exact turn_row _ _ hs1 _ rotates_S8x4096_d1 shapeCasts_S8x4096_S8x4096 _ (by decide) (by decide) (by decide) (by decide) (by decide) (by decide) x
    · intro a b z
      rw [whole_load (hs0_2 t) b inb_S144x128_S144x128_0_0 hz]
      pointwise [k0_pay1]
    · intro a b z
      rw [whole_load (hs0_3 t) b inb_S144x128_S144x128_0_0 hz]
      pointwise [k0_pay2]
    · exact product_block (T := fun b => masked (slab (iblk m c 0 t) b) (iblk m c 2 t) (iblk m c 3 t)) (iblk m c 1 t) y x 1 hx
  · intro x hx
    refine Eq.trans (congrFun (congrArg₂ k0_pay27 (read_masked _ (slab (iblk m c 0 t) 0) (iblk m c 2 t) (iblk m c 3 t) _ (fun y => ?_)
      (fun a b => k0_pay24 a (View.readAt (Elt Ideal) (ms0_2 t).view (Rect.unit (s := S144x128) ![0, 0] S144x128.size inb_S144x128_S144x128_0_0).toLoadRect ((hs0_2 t).unread b)))
      (fun a b => k0_pay26 (k0_pay25 a (View.readAt (Elt Ideal) (ms0_3 t).view (Rect.unit (s := S144x128) ![0, 0] S144x128.size inb_S144x128_S144x128_0_0).toLoadRect ((hs0_3 t).unread b)))) ?_ ?_) hw) x) ?_
    · refine View.canon_append_of_piecesOf (turned _) [] [_, _, _, _, _, _, _, _, _, _, _, _, _, _, _, _, _, _] ?_ y (View.cover_of_tiled_head _ _ _ (by rfl) y)
      refine ⟨fun x => ?_, fun x => ?_, fun x => ?_, fun x => ?_, fun x => ?_, fun x => ?_, fun x => ?_, fun x => ?_, fun x => ?_, fun x => ?_,
        fun x => ?_, fun x => ?_, fun x => ?_, fun x => ?_, fun x => ?_, fun x => ?_, fun x => ?_, fun x => ?_, trivial⟩
      on_goal 18 => exact turn_first _ _ hs0 rotates_S8x4096_d1 shapeCasts_S8x4096_S8x4096 inb_S144x4096_S8x4096_0_0 x
      all_goals exact turn_row _ _ hs0 _ rotates_S8x4096_d1 shapeCasts_S8x4096_S8x4096 _ (by decide) (by decide) (by decide) (by decide) (by decide) (by decide) x
    · intro a b z
      rw [whole_load (hs0_2 t) b inb_S144x128_S144x128_0_0 hz]
      pointwise [k0_pay24]
    · intro a b z
      rw [whole_load (hs0_3 t) b inb_S144x128_S144x128_0_0 hz]
      pointwise [k0_pay25, k0_pay26]
    · exact product_block (T := fun b => masked (slab (iblk m c 0 t) b) (iblk m c 2 t) (iblk m c 3 t)) (iblk m c 1 t) y x 0 hx

end Cert.KernelIdeal.Tap
-- ==== Proof.Final.lean ====
/-
  The kernel's result array after the run, as one function of the four arrays that its windows read.
-/
module

public import proofs.«01_k».proof.Proof.Tap
public import Idealize.ShloMosaic.Lib.Pipeline.ValueKit

@[expose] public section

set_option maxRecDepth 16384

noncomputable section

namespace Cert.KernelIdeal.Tap

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Which blocks point `t` touches: batch pair `t` of the input and of the output, and the weights and masks whole. -/
theorem idx_facts : ∀ t : Fin cfg0.N, win0_0.index t = ![t.val, 0, 0] ∧ win0_1.index t = ![0, 0] ∧ win0_2.index t = ![0, 0] ∧ win0_3.index t = ![0, 0]
    ∧ win0_4.index t = ![t.val, 0, 0] :=
  (by decide +kernel : ∀ t : Fin grid0.N, win0_0.index t = ![t.val, 0, 0] ∧ win0_1.index t = ![0, 0] ∧ win0_2.index t = ![0, 0] ∧ win0_3.index t = ![0, 0]
    ∧ win0_4.index t = ![t.val, 0, 0])

/-- One batch's slab of the whole padded input. -/
def slabAll (X : Vec Ideal S32x8x4096 .f32) (b : Fin 32) : Vec Ideal S8x4096 .f32 := fun z => X (ix3 b (z 0) (z 1))

/-- The kernel's result: for every batch, the masked stack of its slab against the weights. -/
def result (X : Vec Ideal S32x8x4096 .f32) (W : Vec Ideal S144x512 .bf16) (hm tm : Vec Ideal S144x128 .f32) : Vec Ideal S32x4096x512 .f32 := fun i =>
  (∑ r : Fin 144, masked (slabAll X (i 0)) hm tm (ix2 r (i 1)) * W (ix2 r (i 2)) : EReal)

/-- The result array after the run. -/
theorem final (c : Dev nD) : (dats m 0 c).arrAt 4 cfg0.N = result (V m c main_v85) (V m c main_v35) (V m c main_v80) (V m c main_v83) := by
  refine (dats m 0 c).arrAt_eq_of_covers 4 _ (by decide +kernel) fun t hf y => ?_
  blk_simp
  rw [after0_4, block_out]
  have hw : (iblk m c 1 t : Vec Ideal S144x512 .bf16) = V m c main_v35 := by
    funext z
    blk_ext [iblk, idx_facts t]
  have hh : (iblk m c 2 t : Vec Ideal S144x128 .f32) = V m c main_v80 := by
    funext z
    blk_ext [iblk, idx_facts t]
  have ht : (iblk m c 3 t : Vec Ideal S144x128 .f32) = V m c main_v83 := by
    funext z
    blk_ext [iblk, idx_facts t]
  have hs : slab (iblk m c 0 t) (y 0) = slabAll (V m c main_v85) (((win0_4.blk t).view.emb y) 0) := by
    funext z
    show (iblk m c 0 t : Vec Ideal S2x8x4096 .f32) (ix3 (y 0) (z 0) (z 1)) = (V m c main_v85 : Vec Ideal S32x8x4096 .f32) _
    blk_ext [iblk, idx_facts t]
  have h1 : y 1 = ((win0_4.blk t).view.emb y) 1 := by
    refine Fin.ext ?_
    blk_simp [idx_facts t]
  have h2 : y 2 = ((win0_4.blk t).view.emb y) 2 := by
    refine Fin.ext ?_
    blk_simp [idx_facts t]
  rw [hw, hh, ht, hs, h1, h2]
  rfl

end Cert.KernelIdeal.Tap
-- ==== Proof.Masks.lean ====
/-
  The kernel's operands the host computes, read at an index: the two masks and the transposed input.
-/
module

public import proofs.«01_k».proof.Proof.Gen.KernelIdeal.Value
public import Idealize.ShloMosaic.Lib.Pointwise
public import Idealize.ShloMosaic.Lib.Pipeline.ValueKit
public import Idealize.ShloMosaic.Lib.Claim
public import Idealize.ShloMosaic.Lib.Routing.OpsSet
public import Idealize.ShloMosaic.Lib.Routing.OpsPair

@[expose] public section

set_option maxRecDepth 16384

noncomputable section

namespace Cert.KernelIdeal.Tap

open Cert.KernelIdeal Cert.KernelIdeal.Gen Idealize.ShloMosaic Idealize.ShloMosaic.TcCoe Idealize.SL.Sem

variable (m : (ℓ : Loc nD τ sig) → Buf (Elt Ideal) ℓ)

/-! ## Writing row 7 -/

/-- A scatter of one row at the literal row 7, read at an index: the row written there, the operand elsewhere. The two hypotheses say where
    the dimension numbers put entry `j` of the row: at row `7`, column `j`. -/
theorem set_row7 {α : Type} {A N : Nat} (d : ScatterDims ⟨2, ![A, N]⟩ ⟨1, ![1]⟩ ⟨1, ![N]⟩) (X : (⟨2, ![A, N]⟩ : Shape).Idx → α)
    (idx : IVec ⟨1, ![1]⟩ 32) (u : (⟨1, ![N]⟩ : Shape).Idx → α)
    (h0 : ∀ j, d.start j idx 0 + (d.window j 0 : Int) = 7) (h1 : ∀ j, d.start j idx 1 + (d.window j 1 : Int) = (j 0).val)
    (r : Fin A) (n : Fin N) : Host.scatter d (fun _ b => b) X idx u (ix2 r n) = if r.val = 7 then u (ix1 n) else X (ix2 r n) := by
  have hland : ∀ j, d.resultIdx? j idx = some (ix2 r n) ↔ r.val = 7 ∧ (j 0).val = n.val := by
    intro j
    rw [Routing.resultIdx?_eq_some]
    constructor
    · intro h
      have e0 := h 0
      have e1 := h 1
      rw [h0] at e0
      rw [h1] at e1
      change (7 : Int) = (r.val : Int) at e0
      change ((j 0).val : Int) = (n.val : Int) at e1
      omega
    · rintro ⟨hr, hn⟩ a
      match a with
      | ⟨0, _⟩ => exact (h0 j).trans (by show (7 : Int) = (r.val : Int); omega)
      | ⟨1, _⟩ => exact (h1 j).trans (by show ((j 0).val : Int) = (n.val : Int); omega)
  by_cases hr : r.val = 7
  · rw [if_pos hr]
    refine Routing.scatter_set_hit d X idx u _ _ (fun j hj => congrArg u ?_) (ix1 n) ((hland _).2 ⟨hr, rfl⟩)
    funext a
    match a with
    | ⟨0, _⟩ => exact Fin.ext ((hland j).1 hj).2
  · rw [if_neg hr]
    exact Routing.scatter_set_miss d X idx u _ fun j hj => hr ((hland j).1 hj).1

/-- A choice by a word that is one exactly when `p` holds. -/
theorem choose {α : Type} {w : BitVec 1} {p : Prop} [Decidable p] (h : w = 1#1 ↔ p) (a b : α) : Scalar.select w a b = if p then a else b := by
  by_cases hp : p
  · rw [if_pos hp]; exact if_pos (h.2 hp)
  · rw [if_neg hp]; exact if_neg fun hw => hp (h.1 hw)

/-- The number of a one-bit word that is one exactly when `p` holds. -/
theorem number {w : BitVec 1} {p : Prop} [Decidable p] (h : w = 1#1 ↔ p) :
    (FloatOps.uitofp .f32 w : Ideal .f32) = (if p then 1 else 0 : EReal) := by
  show (((w.toNat : ℝ) : EReal)) = _
  by_cases hp : p
  · rw [if_pos hp, h.2 hp]; norm_num
  · have hw : w = 0#1 := by
      have hne : w ≠ 1#1 := fun e => hp (h.1 e)
      revert hne; clear h; revert w; decide
    rw [if_neg hp, hw]; norm_num

/-- THE MASK OF THE FIRST 128 TIMES: at row `r`, whose group `g = r / 8` belongs to tap `k = g % 3`, the mask keeps time `n` exactly when the
    tapped time `n + k - 1` is at least 15, or wraps round (`n = 0`, `k = 0`); row 7 is kept whole. -/
theorem hm_apply (c : Dev nD) (r : Fin 144) (n : Fin 128) :
    (V m c main_v80 : Vec Ideal S144x128 .f32) (ix2 r n)
      = (if r.val = 7 then 1 else if n.val = 0 ∧ r.val / 8 % 3 = 0 ∨ 16 ≤ n.val + r.val / 8 % 3 then 1 else 0 : EReal) := by
  show StableHlo.after ([hostOps0, hostOps0_1, hostOps0_2, hostOps0_3, hostOps0_4, hostOps0_5, hostOps0_6, hostOps0_7, hostOps0_8].flatten) _ _ _ = _
  unfold hostOps0 hostOps0_1 hostOps0_2 hostOps0_3 hostOps0_4 hostOps0_5 hostOps0_6 hostOps0_7 hostOps0_8
  simp only [List.flatten_cons, List.flatten_nil, List.cons_append, List.nil_append, List.append_nil]
  entry_read
  simp only [StableHlo.TRef.ofBuf, StableHlo.TRef.toBuf, cast_eq]
  rw [set_row7 scatter_S144x128_S1_S128_0_0_0_0 _ _ _ (fun j => rfl) (fun j => Int.zero_add _)]
  split
  · pointwise
  · pointwise
    refine number ?_
    have hg : r.val / 8 < 18 := by omega
    generalize r.val / 8 = g at hg
    obtain ⟨n, hn⟩ := n
    show _ ↔ (n = 0 ∧ g % 3 = 0 ∨ 16 ≤ n + g % 3)
    revert n g
    decide +kernel

/-- THE MASK OF THE LAST 128 TIMES: it clears only the very last time of the rows of tap `k = 2`, whose tapped time wraps round to the first;
    row 7 is kept whole. -/
theorem tm_apply (c : Dev nD) (r : Fin 144) (n : Fin 128) :
    (V m c main_v83 : Vec Ideal S144x128 .f32) (ix2 r n)
      = (if r.val = 7 then 1 else if n.val = 127 ∧ r.val / 8 % 3 = 2 then 0 else 1 : EReal) := by
  show StableHlo.after ([hostOps0, hostOps0_1, hostOps0_2, hostOps0_3, hostOps0_4, hostOps0_5, hostOps0_6, hostOps0_7, hostOps0_8].flatten) _ _ _ = _
  unfold hostOps0 hostOps0_1 hostOps0_2 hostOps0_3 hostOps0_4 hostOps0_5 hostOps0_6 hostOps0_7 hostOps0_8
  simp only [List.flatten_cons, List.flatten_nil, List.cons_append, List.nil_append, List.append_nil]
  entry_read
  simp only [StableHlo.TRef.ofBuf, StableHlo.TRef.toBuf, cast_eq]
  rw [set_row7 scatter_S144x128_S1_S128_0_0_0_0 _ _ _ (fun j => rfl) (fun j => Int.zero_add _)]
  split
  · pointwise
  · pointwise
    refine (choose (p := n.val = 127 ∧ r.val / 8 % 3 = 2) ?_ _ _)
    have hg : r.val / 8 < 18 := by omega
    generalize r.val / 8 = g at hg
    obtain ⟨n, hn⟩ := n
    show _ ↔ (n = 127 ∧ g % 3 = 2)
    revert n g
    decide +kernel

/-- THE TRANSPOSED INPUT: channel `s` of batch `b` at time `t`, and zero on the eighth row that pads the seven channels. -/
theorem xt_apply (c : Dev nD) (b : Fin 32) (s : Fin 8) (t : Fin 4096) :
    (V m c main_v85 : Vec Ideal S32x8x4096 .f32) (ix3 b s t)
      = (if h : s.val < 7 then (m ⟨c, main_arg0⟩ : Vec Ideal S32x4096x7 .f32) (ix3 b t ⟨s.val, h⟩) else 0 : EReal) := by
  show StableHlo.after ([hostOps0, hostOps0_1, hostOps0_2, hostOps0_3, hostOps0_4, hostOps0_5, hostOps0_6, hostOps0_7, hostOps0_8].flatten) _ _ _ = _
  unfold hostOps0 hostOps0_1 hostOps0_2 hostOps0_3 hostOps0_4 hostOps0_5 hostOps0_6 hostOps0_7 hostOps0_8
  simp only [List.flatten_cons, List.flatten_nil, List.cons_append, List.nil_append, List.append_nil]
  entry_read
  simp only [StableHlo.TRef.ofBuf, StableHlo.TRef.toBuf, cast_eq]
  pointwise
  by_cases h : s.val < 7
  · rw [dif_pos h, dif_pos h]
  · rw [dif_neg h, dif_neg h]
    show (((0#32 : BitVec 32).toInt : ℝ) : EReal) = 0
    norm_num

end Cert.KernelIdeal.Tap
-- ==== Proof.Weights.lean ====
/-
  The kernel's weight matrix as the host computes it, read at an index.
-/
module

public import proofs.«01_k».proof.Proof.Masks
public import Idealize.ShloMosaic.Lib.Pointwise
public import Idealize.ShloMosaic.Lib.Pipeline.ValueKit
public import Idealize.ShloMosaic.Lib.Claim
public import Idealize.ShloMosaic.Lib.Routing.OpsSet
public import Idealize.ShloMosaic.Lib.Routing.OpsPair

@[expose] public section

set_option maxRecDepth 16384

noncomputable section

namespace Cert.KernelIdeal.Tap

open Cert.KernelIdeal Cert.KernelIdeal.Gen Idealize.ShloMosaic Idealize.ShloMosaic.TcCoe Idealize.SL.Sem

variable (m : (ℓ : Loc nD τ sig) → Buf (Elt Ideal) ℓ)

/-- Narrowing changes no value. -/
theorem narrow_apply (Z : FVec Ideal S144x512 .f32) (y : S144x512.Idx) : (truncf .bf16 Z bitsLt_bf16_f32 y : EReal) = Z y := rfl

/-- THE WEIGHT MATRIX at row `r` (group `g = r / 8`, channel `r % 8`) and feature `n`: row 7 is the bias vector; elsewhere a filter's weight of
    delay `5 - g / 3` and offset `g % 3`, on the row of the feature's own channel only. -/
theorem w_apply (c : Dev nD) (r : Fin 144) (n : Fin 512) :
    (V m c main_v35 : Vec Ideal S144x512 .bf16) (ix2 r n)
      = (if r.val = 7 then
          if n.val < 511 then (m ⟨c, main_arg2⟩ : Vec Ideal S73 .f32) (ix1 ⟨n.val % 73, Nat.mod_lt _ (by decide)⟩)
          else (m ⟨c, main_arg4⟩ : Vec Ideal S1 .f32) (ix1 0)
        else if n.val < 511 then
          (if r.val % 8 = n.val / 73 then 1 else 0) * (m ⟨c, main_arg1⟩ : Vec Ideal S73x6x3 .f32)
            (ix3 ⟨n.val % 73, Nat.mod_lt _ (by decide)⟩ ⟨5 - r.val / 8 / 3, by omega⟩ ⟨r.val / 8 % 3, Nat.mod_lt _ (by decide)⟩)
        else
          (if r.val % 8 = 6 then 1 else 0) * (m ⟨c, main_arg3⟩ : Vec Ideal S1x6x3 .f32)
            (ix3 0 ⟨5 - r.val / 8 / 3, by omega⟩ ⟨r.val / 8 % 3, Nat.mod_lt _ (by decide)⟩) : EReal) := by
  show StableHlo.after ([hostOps0, hostOps0_1, hostOps0_2, hostOps0_3, hostOps0_4, hostOps0_5, hostOps0_6, hostOps0_7, hostOps0_8].flatten) _ _ _ = _
  unfold hostOps0 hostOps0_1 hostOps0_2 hostOps0_3 hostOps0_4 hostOps0_5 hostOps0_6 hostOps0_7 hostOps0_8
  simp only [List.flatten_cons, List.flatten_nil, List.cons_append, List.nil_append, List.append_nil]
  entry_read
  refine Eq.trans (narrow_apply _ _) ?_
  rw [set_row7 scatter_S144x512_S1_S512_0_0_0_0 _ _ _ (fun j => rfl) (fun j => Int.zero_add _)]
  split
  · pointwise
    by_cases hn : n.val < 511
    · refine (dif_pos hn).trans (Eq.trans ?_ (if_pos hn).symm)
      rfl
    · refine (dif_neg hn).trans (Eq.trans ?_ (if_neg hn).symm)
      have e : ∀ h : n.val - 511 < 1, (⟨n.val - 511, h⟩ : Fin 1) = 0 := fun h => Fin.ext (by show n.val - 511 = 0; omega)
      exact congrArg (fun k => (m ⟨c, main_arg4⟩ : Vec Ideal S1 .f32) (ix1 k)) (e _)
  · pointwise
    have hrev : ∀ h : r.val / 8 / 3 < 6, (⟨r.val / 8 / 3, h⟩ : Fin 6).rev = ⟨5 - r.val / 8 / 3, by omega⟩ := fun h =>
      Fin.ext (by rw [Fin.val_rev]; show 6 - (r.val / 8 / 3 + 1) = 5 - r.val / 8 / 3; omega)
    have d0 : ¬ (0 : Fin 3) ∈ [(1 : Fin 3)] := by decide
    have d1 : (1 : Fin 3) ∈ [(1 : Fin 3)] := by decide
    have d2 : ¬ (2 : Fin 3) ∈ [(1 : Fin 3)] := by decide
    simp only [if_neg d0, if_pos d1, if_neg d2, hrev]
    by_cases hn : n.val < 511
    · refine (dif_pos hn).trans (Eq.trans ?_ (if_pos hn).symm)
      have hw : IntOp.cmpi .eq (IntOp.addi (BitVec.ofNat 32 (r.val % 8)) 0#32) (BitVec.ofNat 32 (n.val / 73)) = 1#1 ↔ r.val % 8 = n.val / 73 := by
        have h1 : r.val % 8 < 8 := by omega
        have h2 : n.val / 73 < 7 := by omega
        generalize r.val % 8 = a at h1
        generalize n.val / 73 = b at h2
        revert a b
        decide +kernel
      exact congrArg (fun w : EReal => w * _) (number hw)
    · refine (dif_neg hn).trans (Eq.trans ?_ (if_neg hn).symm)
      have hw : IntOp.cmpi .eq (BitVec.ofNat 32 (r.val % 8)) 6#32 = 1#1 ↔ r.val % 8 = 6 := by
        have h1 : r.val % 8 < 8 := by omega
        generalize r.val % 8 = a at h1
        revert a
        decide +kernel
      exact congrArg (fun w : EReal => w * _) (number hw)

end Cert.KernelIdeal.Tap
-- ==== Proof.Spec.lean ====
/-
  What both programs compute, written over the five arguments: a causal dilated convolution of each channel, its taps wrapped round in time,
  and the sum over the kernel's 144 rows that gives it.
-/
module

public import Idealize.ShloMosaic.Lib.Pointwise

@[expose] public section

set_option maxRecDepth 16384

noncomputable section

namespace Cert.Conv

open Idealize.ShloMosaic

/-- The tap of delay `i` and offset `k` at time `t`: with `u = t + k - 1` taken round the 4096 times, the input at `u - 3 i`, or zero at the
    first 15 times. -/
def tap (X : (⟨3, ![32, 4096, 7]⟩ : Shape).Idx → EReal) (b : Fin 32) (s : Fin 7) (t : Fin 4096) (i : Fin 6) (k : Fin 3) : EReal :=
  if 15 ≤ (t.val + k.val + 4095) % 4096 then X (ix3 b ⟨(t.val + k.val + 4095) % 4096 - 3 * i.val, by omega⟩ s) else 0

/-- One filter against the taps of one channel. -/
def conv (X : (⟨3, ![32, 4096, 7]⟩ : Shape).Idx → EReal) (w : Fin 6 → Fin 3 → EReal) (b : Fin 32) (s : Fin 7) (t : Fin 4096) : EReal :=
  ∑ k : Fin 3, ∑ i : Fin 6, w i k * tap X b s t i k

/-- The result at batch `b`, time `t`, feature `n`: the first 511 features are the 73 filters on each of the seven channels, the last the
    leftout filter on the last channel. -/
def value (X : (⟨3, ![32, 4096, 7]⟩ : Shape).Idx → EReal) (W : (⟨3, ![73, 6, 3]⟩ : Shape).Idx → EReal) (B : (⟨1, ![73]⟩ : Shape).Idx → EReal)
    (L : (⟨3, ![1, 6, 3]⟩ : Shape).Idx → EReal) (C : (⟨1, ![1]⟩ : Shape).Idx → EReal) (b : Fin 32) (t : Fin 4096) (n : Fin 512) : EReal :=
  if h : n.val < 511 then
    conv X (fun i k => W (ix3 ⟨n.val % 73, Nat.mod_lt _ (by decide)⟩ i k)) b ⟨n.val / 73, by omega⟩ t + B (ix1 ⟨n.val % 73, Nat.mod_lt _ (by decide)⟩)
  else conv X (fun i k => L (ix3 0 i k)) b 6 t + C (ix1 0)

/-- The value at one of the first 511 features. -/
theorem value_filter (X : (⟨3, ![32, 4096, 7]⟩ : Shape).Idx → EReal) (W : (⟨3, ![73, 6, 3]⟩ : Shape).Idx → EReal) (B : (⟨1, ![73]⟩ : Shape).Idx → EReal)
    (L : (⟨3, ![1, 6, 3]⟩ : Shape).Idx → EReal) (C : (⟨1, ![1]⟩ : Shape).Idx → EReal) (b : Fin 32) (t : Fin 4096) (n : Fin 512) (h : n.val < 511) :
    value X W B L C b t n = conv X (fun i k => W (ix3 ⟨n.val % 73, Nat.mod_lt _ (by decide)⟩ i k)) b ⟨n.val / 73, by omega⟩ t
      + B (ix1 ⟨n.val % 73, Nat.mod_lt _ (by decide)⟩) := by
  unfold value
  exact dif_pos h

/-- The value at the last feature. -/
theorem value_last (X : (⟨3, ![32, 4096, 7]⟩ : Shape).Idx → EReal) (W : (⟨3, ![73, 6, 3]⟩ : Shape).Idx → EReal) (B : (⟨1, ![73]⟩ : Shape).Idx → EReal)
    (L : (⟨3, ![1, 6, 3]⟩ : Shape).Idx → EReal) (C : (⟨1, ![1]⟩ : Shape).Idx → EReal) (b : Fin 32) (t : Fin 4096) (n : Fin 512) (h : ¬ n.val < 511) :
    value X W B L C b t n = conv X (fun i k => L (ix3 0 i k)) b 6 t + C (ix1 0) := by
  unfold value
  exact dif_neg h

/-- The row of the stack that holds channel `s`'s tap of delay `i` and offset `k`. -/
def row (s : Fin 7) (i : Fin 6) (k : Fin 3) : Fin 144 := ⟨(3 * (5 - i.val) + k.val) * 8 + s.val, by omega⟩

/-- A sum over the 144 rows in which row 7 is the bias and only channel `s`'s rows are not zero: the sum over the taps, and the bias. -/
theorem sum_rows (F : Fin 144 → EReal) (β : EReal) (s : Fin 7) (T : Fin 6 → Fin 3 → EReal) (h7 : ∀ r, r.val = 7 → F r = β)
    (hz : ∀ r, r.val ≠ 7 → r.val % 8 ≠ s.val → F r = 0) (hv : ∀ i k, F (row s i k) = T i k) :
    ∑ r, F r = (∑ k : Fin 3, ∑ i : Fin 6, T i k) + β := by
  have hs := s.isLt
  have hsplit : ∀ r, F r = (if r.val = 7 then 0 else F r) + (if r = (7 : Fin 144) then β else 0) := by
    intro r
    by_cases h : r.val = 7
    · rw [if_pos h, if_pos (Fin.ext h), h7 r h, zero_add]
    · rw [if_neg h, if_neg (fun e => h (congrArg Fin.val e)), add_zero]
  rw [Finset.sum_congr rfl fun r _ => hsplit r, Finset.sum_add_distrib, Finset.sum_ite_eq' Finset.univ (7 : Fin 144), if_pos (Finset.mem_univ _)]
  refine congrArg (· + β) ?_
  rw [← Finset.sum_product' (Finset.univ : Finset (Fin 3)) (Finset.univ : Finset (Fin 6)) (fun k i => T i k)]
  symm
  refine Finset.sum_of_injOn (fun p => row s p.2 p.1) ?_ (fun _ _ => Finset.mem_coe.2 (Finset.mem_univ _)) ?_ ?_
  · rintro ⟨k, i⟩ - ⟨k', i'⟩ - h
    have e : (3 * (5 - i.val) + k.val) * 8 + s.val = (3 * (5 - i'.val) + k'.val) * 8 + s.val := congrArg Fin.val h
    exact Prod.ext (Fin.ext (by show k.val = k'.val; omega)) (Fin.ext (by show i.val = i'.val; omega))
  · intro r _ hr
    by_cases h : r.val = 7
    · exact if_pos h
    · rw [if_neg h]
      refine hz r h fun e => hr ?_
      refine ⟨(⟨r.val / 8 % 3, Nat.mod_lt _ (by decide)⟩, ⟨5 - r.val / 8 / 3, by omega⟩), Finset.mem_coe.2 (Finset.mem_univ _), Fin.ext ?_⟩
      show (3 * (5 - (5 - r.val / 8 / 3)) + r.val / 8 % 3) * 8 + s.val = r.val
      omega
  · rintro ⟨k, i⟩ -
    show T i k = if (row s i k).val = 7 then 0 else F (row s i k)
    rw [if_neg (by show (3 * (5 - i.val) + k.val) * 8 + s.val ≠ 7; omega), hv]

end Cert.Conv
-- ==== Proof.KernelAt.lean ====
/-
  The kernel's result, read at an index: its 144-row product is the convolution's value.
-/
module

public import proofs.«01_k».proof.Proof.Final
public import proofs.«01_k».proof.Proof.Weights
public import proofs.«01_k».proof.Proof.Spec

@[expose] public section

set_option maxRecDepth 16384

noncomputable section

namespace Cert.KernelIdeal.Tap

open Cert.KernelIdeal Cert.KernelIdeal.Gen Idealize.ShloMosaic Idealize.ShloMosaic.TcCoe Idealize.SL.Sem

variable (m : (ℓ : Loc nD τ sig) → Buf (Elt Ideal) ℓ)

section Stack

variable {X : (⟨3, ![32, 4096, 7]⟩ : Shape).Idx → EReal} {XT : Vec Ideal S32x8x4096 .f32} {hm tm : Vec Ideal S144x128 .f32}

/-- Row 7 of the masked stack is ones. -/
theorem masked_ones (hh : ∀ r n, r.val = 7 → hm (ix2 r n) = (1 : EReal)) (ht : ∀ r n, r.val = 7 → tm (ix2 r n) = (1 : EReal))
    (b : Fin 32) (r : Fin 144) (t : Fin 4096) (hr : r.val = 7) : masked (slabAll XT b) hm tm (ix2 r t) = (1 : EReal) := by
  have h1 : turned (slabAll XT b) (ix2 r t) = (1 : EReal) := if_pos hr
  have h2 : headed (slabAll XT b) hm (ix2 r t) = (1 : EReal) := by
    unfold headed
    split
    · rw [h1]
      exact (one_mul _).trans (hh _ _ hr)
    · exact h1
  unfold masked
  split
  · rw [h2]
    exact (one_mul _).trans (ht _ _ hr)
  · exact h2

/-- A channel's row of the masked stack holds its tap: the turned row is the input at the tap's time, and the two masks clear exactly the
    times at which the tap is zero. -/
theorem masked_tap (hX : ∀ b s t, XT (ix3 b s t) = (if h : s.val < 7 then X (ix3 b t ⟨s.val, h⟩) else 0 : EReal))
    (hh : ∀ r n, hm (ix2 r n) = (if r.val = 7 then 1 else if n.val = 0 ∧ r.val / 8 % 3 = 0 ∨ 16 ≤ n.val + r.val / 8 % 3 then 1 else 0 : EReal))
    (ht : ∀ r n, tm (ix2 r n) = (if r.val = 7 then 1 else if n.val = 127 ∧ r.val / 8 % 3 = 2 then 0 else 1 : EReal))
    (b : Fin 32) (s : Fin 7) (i : Fin 6) (k : Fin 3) (t : Fin 4096) :
    masked (slabAll XT b) hm tm (ix2 (Conv.row s i k) t) = Conv.tap X b s t i k := by
  have hs := s.isLt
  have hi := i.isLt
  have hk := k.isLt
  have htt := t.isLt
  obtain ⟨r, hr⟩ : ∃ r, r = Conv.row s i k := ⟨_, rfl⟩
  have hv : r.val = (3 * (5 - i.val) + k.val) * 8 + s.val := congrArg Fin.val hr
  rw [← hr]
  have h7 : r.val ≠ 7 := by omega
  have hg : r.val / 8 % 3 = k.val := by omega
  have hd : r.val / 8 = 3 * (5 - i.val) + k.val := by omega
  have hc : r.val % 8 = s.val := by omega
  obtain ⟨V, hV⟩ : ∃ V : Fin 4096, V.val = (t.val + 4080 + r.val / 8) % 4096 := ⟨⟨_, Nat.mod_lt _ (by decide)⟩, rfl⟩
  have hturn : turned (slabAll XT b) (ix2 r t) = X (ix3 b V s) := by
    refine (if_neg h7).trans ?_
    refine (hX b ⟨r.val % 8, by omega⟩ ⟨(t.val + 4080 + r.val / 8) % 4096, Nat.mod_lt _ (by decide)⟩).trans ?_
    refine (dif_pos (show r.val % 8 < 7 by omega)).trans ?_
    exact congrArg X (congrArg₂ (fun u w => ix3 b u w) (Fin.ext hV.symm) (Fin.ext hc))
  have hhead : headed (slabAll XT b) hm (ix2 r t)
      = if t.val < 128 ∧ ¬ (t.val = 0 ∧ k.val = 0 ∨ 16 ≤ t.val + k.val) then (0 : EReal) else X (ix3 b V s) := by
    unfold headed
    by_cases h1 : t.val < 128
    · refine (dif_pos h1).trans ?_
      have hm1 : hm (ix2 r ⟨t.val, h1⟩) = (if t.val = 0 ∧ k.val = 0 ∨ 16 ≤ t.val + k.val then 1 else 0 : EReal) := by
        refine (hh r ⟨t.val, h1⟩).trans ((if_neg h7).trans ?_)
        rw [hg]
      refine (congrArg₂ (fun u w : EReal => u * w) hturn hm1).trans ?_
      by_cases h2 : t.val = 0 ∧ k.val = 0 ∨ 16 ≤ t.val + k.val
      · exact (congrArg (fun w : EReal => X (ix3 b V s) * w) (if_pos h2)).trans ((mul_one _).trans (if_neg (fun h => h.2 h2)).symm)
      · exact (congrArg (fun w : EReal => X (ix3 b V s) * w) (if_neg h2)).trans ((mul_zero _).trans (if_pos ⟨h1, h2⟩).symm)
    · exact (dif_neg h1).trans (hturn.trans (if_neg (fun h => h1 h.1)).symm)
  have hmask : masked (slabAll XT b) hm tm (ix2 r t) = if t.val = 4095 ∧ k.val = 2 then (0 : EReal) else headed (slabAll XT b) hm (ix2 r t) := by
    unfold masked
    by_cases h1 : 3968 ≤ t.val
    · refine (if_pos h1).trans ?_
      have ht1 : tm (ix2 r ⟨(t.val - 3968) % 128, Nat.mod_lt _ (by decide)⟩) = (if t.val = 4095 ∧ k.val = 2 then 0 else 1 : EReal) := by
        refine (ht r ⟨(t.val - 3968) % 128, Nat.mod_lt _ (by decide)⟩).trans ((if_neg h7).trans ?_)
        rw [hg]
        refine if_congr (and_congr ?_ Iff.rfl) rfl rfl
        show (t.val - 3968) % 128 = 127 ↔ t.val = 4095
        omega
      refine (congrArg (fun w : EReal => headed (slabAll XT b) hm (ix2 r t) * w) ht1).trans ?_
      show (headed (slabAll XT b) hm (ix2 r t) * (if t.val = 4095 ∧ k.val = 2 then 0 else 1 : EReal) : EReal) = _
      by_cases h2 : t.val = 4095 ∧ k.val = 2
      · rw [if_pos h2, if_pos h2, mul_zero]
      · rw [if_neg h2, if_neg h2, mul_one]
    · refine (if_neg h1).trans (if_neg (fun h => h1 ?_)).symm
      have := h.1
      omega
  rw [hmask, hhead]
  unfold Conv.tap
  by_cases hu : 15 ≤ (t.val + k.val + 4095) % 4096
  · refine (if_neg (fun h => ?_)).trans ((if_neg (fun h => ?_)).trans (Eq.trans ?_ (if_pos hu).symm))
    · obtain ⟨h1, h2⟩ := h
      omega
    · obtain ⟨h1, h2⟩ := h
      omega
    · refine congrArg X (congrArg (fun u => ix3 b u s) (Fin.ext (hV.trans ?_)))
      show _ = (t.val + k.val + 4095) % 4096 - 3 * i.val
      omega
  · refine Eq.trans ?_ (if_neg hu).symm
    by_cases h1 : t.val = 4095 ∧ k.val = 2
    · exact if_pos h1
    · refine (if_neg h1).trans (if_pos ?_)
      omega

end Stack

/-- One entry of the kernel's product when the weights are one filter on one channel, and a bias in row 7. -/
theorem entry (X : (⟨3, ![32, 4096, 7]⟩ : Shape).Idx → EReal) {M : Fin 144 → EReal} {w : Fin 144 → EReal} (β : EReal) (f : Fin 6 → Fin 3 → EReal)
    (b : Fin 32) (s : Fin 7) (t : Fin 4096) (hM7 : ∀ r, r.val = 7 → M r = 1) (hM : ∀ i k, M (Conv.row s i k) = Conv.tap X b s t i k)
    (hw7 : ∀ r, r.val = 7 → w r = β) (hw0 : ∀ r, r.val ≠ 7 → r.val % 8 ≠ s.val → w r = 0) (hw : ∀ i k, w (Conv.row s i k) = f i k) :
    ∑ r, M r * w r = Conv.conv X f b s t + β := by
  refine Conv.sum_rows (fun r => M r * w r) β s (fun i k => f i k * Conv.tap X b s t i k) (fun r h => ?_) (fun r h h' => ?_) (fun i k => ?_)
  · show M r * w r = β
    rw [hM7 r h, hw7 r h, one_mul]
  · show M r * w r = 0
    rw [hw0 r h h', mul_zero]
  · show M (Conv.row s i k) * w (Conv.row s i k) = _
    rw [hM, hw, mul_comm]

/-- THE KERNEL'S RESULT AT AN INDEX is the convolution's value there. -/
theorem result_apply (c : Dev nD) (b : Fin 32) (t : Fin 4096) (n : Fin 512) :
    result (V m c main_v85) (V m c main_v35) (V m c main_v80) (V m c main_v83) (ix3 b t n)
      = Conv.value (m ⟨c, main_arg0⟩ : Vec Ideal S32x4096x7 .f32) (m ⟨c, main_arg1⟩ : Vec Ideal S73x6x3 .f32) (m ⟨c, main_arg2⟩ : Vec Ideal S73 .f32)
          (m ⟨c, main_arg3⟩ : Vec Ideal S1x6x3 .f32) (m ⟨c, main_arg4⟩ : Vec Ideal S1 .f32) b t n := by
  have hM7 : ∀ r : Fin 144, r.val = 7 → masked (slabAll (V m c main_v85) b) (V m c main_v80) (V m c main_v83) (ix2 r t) = (1 : EReal) := fun r hr =>
    masked_ones (fun r n h => (hm_apply m c r n).trans (if_pos h)) (fun r n h => (tm_apply m c r n).trans (if_pos h)) b r t hr
  have hM : ∀ s i k, masked (slabAll (V m c main_v85) b) (V m c main_v80) (V m c main_v83) (ix2 (Conv.row s i k) t)
      = Conv.tap (m ⟨c, main_arg0⟩ : Vec Ideal S32x4096x7 .f32) b s t i k := fun s i k =>
    masked_tap (xt_apply m c) (hm_apply m c) (tm_apply m c) b s i k t
  have hrow : ∀ (s : Fin 7) (i : Fin 6) (k : Fin 3), (Conv.row s i k).val ≠ 7 ∧ (Conv.row s i k).val % 8 = s.val
      ∧ 5 - (Conv.row s i k).val / 8 / 3 = i.val ∧ (Conv.row s i k).val / 8 % 3 = k.val := fun s i k => by
    have e : (Conv.row s i k).val = (3 * (5 - i.val) + k.val) * 8 + s.val := rfl
    omega
  show (∑ r : Fin 144, masked (slabAll (V m c main_v85) b) (V m c main_v80) (V m c main_v83) (ix2 r t) * (V m c main_v35 : Vec Ideal S144x512 .bf16) (ix2 r n) : EReal) = _
  by_cases hn : n.val < 511
  · rw [Conv.value_filter _ _ _ _ _ b t n hn]
    refine entry _ _ _ b ⟨n.val / 73, by omega⟩ t hM7 (hM _) (fun r h => ?_) (fun r h h' => ?_) (fun i k => ?_)
    · exact (w_apply m c r n).trans ((if_pos h).trans (if_pos hn))
    · refine (w_apply m c r n).trans ((if_neg h).trans ((if_pos hn).trans ?_))
      exact (congrArg (fun z : EReal => z * _) (if_neg h')).trans (zero_mul _)
    · obtain ⟨h1, h2, h3, h4⟩ := hrow ⟨n.val / 73, by omega⟩ i k
      refine (w_apply m c _ n).trans ((if_neg h1).trans ((if_pos hn).trans ?_))
      refine (congrArg (fun z : EReal => z * _) (if_pos h2)).trans ((one_mul _).trans ?_)
      exact congrArg (m ⟨c, main_arg1⟩ : Vec Ideal S73x6x3 .f32) (congrArg₂ (fun u w => ix3 _ u w) (Fin.ext h3) (Fin.ext h4))
  · rw [Conv.value_last _ _ _ _ _ b t n hn]
    refine entry _ _ _ b 6 t hM7 (hM _) (fun r h => ?_) (fun r h h' => ?_) (fun i k => ?_)
    · exact (w_apply m c r n).trans ((if_pos h).trans (if_neg hn))
    · refine (w_apply m c r n).trans ((if_neg h).trans ((if_neg hn).trans ?_))
      exact (congrArg (fun z : EReal => z * _) (if_neg h')).trans (zero_mul _)
    · obtain ⟨h1, h2, h3, h4⟩ := hrow 6 i k
      refine (w_apply m c _ n).trans ((if_neg h1).trans ((if_neg hn).trans ?_))
      refine (congrArg (fun z : EReal => z * _) (if_pos h2)).trans ((one_mul _).trans ?_)
      exact congrArg (m ⟨c, main_arg3⟩ : Vec Ideal S1x6x3 .f32) (congrArg₂ (fun u w => ix3 _ u w) (Fin.ext h3) (Fin.ext h4))

end Cert.KernelIdeal.Tap
-- ==== Proof.Series.lean ====
/-
  The reference's tapped series, read at an index.
-/
module

public import proofs.«01_k».proof.Proof.Gen.ReferenceIdeal.Run
public import Idealize.ShloMosaic.Lib.Pointwise
public import Idealize.ShloMosaic.Lib.Claim

@[expose] public section

set_option maxRecDepth 16384

noncomputable section

namespace Cert.ReferenceIdeal.Spec

open Cert.ReferenceIdeal Cert.ReferenceIdeal.Gen Idealize.ShloMosaic Idealize.ShloMosaic.TcCoe Idealize.SL.Sem

/-- Where the reference's gather reads: word `15 + t - 3 i`, written as its operations write it. -/
def places : IVec S4081x6 32 :=
  subi (broadcastInDim S4081x6 ![0, 1] bcast_S4081x1_S4081x6_0_1 (broadcastInDim S4081x1 ![0] bcast_S4081_S4081x1_0 (addi (broadcastInDim S4081 ![] bcast_S_S4081 (constantI S_ 32 15#32)) (iotaInDim S4081 32 0)))) (broadcastInDim S4081x6 ![0, 1] bcast_S1x6_S4081x6_0_1 (muli (broadcastInDim S1x6 ![1] bcast_S6_S1x6_1 (iotaInDim S6 32 0)) (broadcastInDim S1x6 ![] bcast_S_S1x6 (constantI S_ 32 3#32))))

/-- … with a negative word counted from the end, as array indexing has it. -/
def starts : IVec S4081x6x1 32 :=
  broadcastInDim S4081x6x1 ![0, 1] bcast_S4081x6_S4081x6x1_0_1 (select (cmpi .slt places (broadcastInDim S4081x6 ![] bcast_S_S4081x6 (constantI S_ 32 0#32))) (addi places (broadcastInDim S4081x6 ![] bcast_S_S4081x6 (constantI S_ 32 4096#32))) places)

/-- The delayed copies the reference convolves: row `q` is a batch and a channel, `i` the delay. -/
def series (X : FVec Ideal S32x4096x7 .f32) : FVec Ideal S224x6x4096 .f32 :=
  shapeCast _ (transpose S32x7x6x4096 [0, 2, 3, 1] (shapeCast _ (pad S32x4096x42 ![0, 15, 0] ![0, 0, 0] ![0, 0, 0] (shapeCast _ (transpose S32x4081x7x6 [0, 1, 3, 2] (Host.gather gather_S32x4096x7_S4081x6x1_S32x4081x6x7_03_1_n_n_1_2_3217 X starts) transposes_S32x4081x6x7_S32x4081x7x6_0_1_3_2) shapeCasts_S32x4081x7x6_S32x4081x42) (sitofp .f32 (constantI S_ 32 0#32)) pads_S32x4081x42_S32x4096x42_000_1500_000 h_S_) shapeCasts_S32x4096x42_S32x4096x7x6) transposes_S32x4096x7x6_S32x7x6x4096_0_2_3_1) shapeCasts_S32x7x6x4096_S224x6x4096

/-- The gather of a batch's rows read at an index: the row its start index names, clamped to the last. -/
theorem gather_rows (X : FVec Ideal S32x4096x7 .f32) (idx : IVec S4081x6x1 32) (b : Fin 32) (t : Fin 4081) (i : Fin 6) (s : Fin 7) :
    Host.gather gather_S32x4096x7_S4081x6x1_S32x4081x6x7_03_1_n_n_1_2_3217 X idx (ix4 b t i s)
      = X (ix3 b ⟨min (idx (ix3 t i 0)).toInt.toNat 4095, by omega⟩ s) := by
  unfold Host.gather
  refine congrArg X (funext fun a => Fin.ext ?_)
  match a with
  | ⟨0, _⟩ => exact Nat.zero_add _
  | ⟨1, _⟩ =>
    show min (idx _).toInt.toNat 4095 + 0 + 0 = min (idx _).toInt.toNat 4095
    refine congrArg (fun z => min (idx z).toInt.toNat 4095) (funext fun d => ?_)
    match d with
    | ⟨0, _⟩ => rfl
    | ⟨1, _⟩ => rfl
    | ⟨2, _⟩ => rfl
  | ⟨2, _⟩ => exact Nat.zero_add _

/-- A start index read as a number: `15 + t - 3 i`, which is never negative. -/
theorem starts_apply (t : Fin 4081) (i : Fin 6) : (starts (ix3 t i 0)).toInt.toNat = 15 + t.val - 3 * i.val := by
  unfold starts places
  pointwise
  have ht := t.isLt
  have hi := i.isLt
  have hV : IntOp.subi (IntOp.addi (15#32) (BitVec.ofNat 32 t.val)) (IntOp.muli (BitVec.ofNat 32 i.val) 3#32) = BitVec.ofNat 32 (15 + t.val - 3 * i.val) := by
    apply BitVec.eq_of_toNat_eq
    show (15#32 + BitVec.ofNat 32 t.val - BitVec.ofNat 32 i.val * 3#32).toNat = _
    simp only [BitVec.toNat_sub, BitVec.toNat_add, BitVec.toNat_mul, BitVec.toNat_ofNat]
    omega
  rw [hV]
  have hT : (BitVec.ofNat 32 (15 + t.val - 3 * i.val)).toInt = ((15 + t.val - 3 * i.val : Nat) : Int) := by
    rw [BitVec.toInt_eq_toNat_of_lt (by rw [BitVec.toNat_ofNat]; omega), BitVec.toNat_ofNat]
    omega
  rw [Scalar.select_of_ne_one]
  · rw [hT]; rfl
  · intro h
    have h' : (BitVec.ofNat 32 (15 + t.val - 3 * i.val)).slt 0#32 = true := by
      revert h
      show BitVec.ofBool ((BitVec.ofNat 32 (15 + t.val - 3 * i.val)).slt 0#32) = 1#1 → _
      cases (BitVec.ofNat 32 (15 + t.val - 3 * i.val)).slt 0#32
      · exact fun h => absurd h (by decide)
      · exact fun _ => rfl
    rw [BitVec.slt_eq_decide, hT] at h'
    have := of_decide_eq_true h'
    change ((15 + t.val - 3 * i.val : Nat) : Int) < 0 at this
    omega

/-- A SERIES AT AN INDEX: from time 15 on the input `3 i` times earlier, before that zero. -/
theorem series_apply (X : FVec Ideal S32x4096x7 .f32) (q : Fin 224) (i : Fin 6) (t : Fin 4096) :
    series X (ix3 q i t) = (if 15 ≤ t.val then X (ix3 ⟨q.val / 7, by omega⟩ ⟨t.val - 3 * i.val, by omega⟩ ⟨q.val % 7, by omega⟩) else 0 : EReal) := by
  unfold series
  pointwise
  by_cases ht : 15 ≤ t.val
  · have h3 : q.val / 7 < 32 ∧ (15 ≤ t.val ∧ t.val - 15 < 4081) ∧ q.val % 7 * 6 + i.val < 42 := by omega
    refine (dif_pos h3).trans (Eq.trans ?_ (if_pos ht).symm)
    refine Eq.trans (gather_rows X starts _ _ _ _) ?_
    have e1 : (starts (ix3 ⟨t.val - 15, h3.2.1.2⟩ i 0)).toInt.toNat = t.val - 3 * i.val := (starts_apply _ _).trans (by
      show 15 + (t.val - 15) - 3 * i.val = t.val - 3 * i.val; omega)
    refine congrArg X (congrArg₂ (fun u w => ix3 _ u w) (Fin.ext ?_) (Fin.ext ?_))
    · refine (congrArg (fun k => min k 4095) e1).trans (Nat.min_eq_left ?_)
      have := t.isLt
      omega
    · show (q.val % 7 * 6 + i.val) / 6 = q.val % 7
      omega
  · refine (dif_neg (fun h => ht h.2.1.1)).trans (Eq.trans ?_ (if_neg ht).symm)
    show (((0#32 : BitVec 32).toInt : ℝ) : EReal) = 0
    norm_num

end Cert.ReferenceIdeal.Spec
-- ==== Proof.RefAt.lean ====
/-
  The reference's result, read at an index.
-/
module

public import proofs.«01_k».proof.Proof.Series
public import proofs.«01_k».proof.Proof.Spec
public import Idealize.ShloMosaic.Lib.Pointwise
public import Idealize.ShloMosaic.Lib.Claim

@[expose] public section

set_option maxRecDepth 16384

noncomputable section

namespace Cert.ReferenceIdeal.Spec

open Cert.ReferenceIdeal Cert.ReferenceIdeal.Gen Idealize.ShloMosaic Idealize.ShloMosaic.TcCoe Idealize.SL.Sem

variable (m : (ℓ : Loc nD τ sig) → Buf (Elt Ideal) ℓ)

/-- A series with its last time put before the first and its first after the last. -/
def wrapped (T : FVec Ideal S224x6x4096 .f32) : FVec Ideal S224x6x4098 .f32 :=
  concatenate S224x6x4098 2 [⟨S224x6x1, ((extractStridedSlice S224x6x1 ![0, 0, 4095] T slices_S224x6x4096_S224x6x1_0_0_4095) : FVec Ideal S224x6x1 .f32)⟩, ⟨S224x6x4096, (T : FVec Ideal S224x6x4096 .f32)⟩, ⟨S224x6x1, ((extractStridedSlice S224x6x1 ![0, 0, 0] T slices_S224x6x4096_S224x6x1_0_0_0) : FVec Ideal S224x6x1 .f32)⟩] concatenates_S224x6x1_S224x6x4096_S224x6x1_S224x6x4098_d2

/-- The same for one channel of each batch. -/
def wrapped1 (T : FVec Ideal S32x6x4096 .f32) : FVec Ideal S32x6x4098 .f32 :=
  concatenate S32x6x4098 2 [⟨S32x6x1, ((extractStridedSlice S32x6x1 ![0, 0, 4095] T slices_S32x6x4096_S32x6x1_0_0_4095) : FVec Ideal S32x6x1 .f32)⟩, ⟨S32x6x4096, (T : FVec Ideal S32x6x4096 .f32)⟩, ⟨S32x6x1, ((extractStridedSlice S32x6x1 ![0, 0, 0] T slices_S32x6x4096_S32x6x1_0_0_0) : FVec Ideal S32x6x1 .f32)⟩] concatenates_S32x6x1_S32x6x4096_S32x6x1_S32x6x4098_d2

/-- The last channel's series. -/
def lastSeries (T : FVec Ideal S224x6x4096 .f32) : FVec Ideal S32x6x4096 .f32 :=
  shapeCast _ (extractStridedSlice S32x1x6x4096 ![0, 6, 0, 0] (shapeCast _ T shapeCasts_S224x6x4096_S32x7x6x4096) slices_S32x7x6x4096_S32x1x6x4096_0_6_0_0) shapeCasts_S32x1x6x4096_S32x6x4096

/-- The reference's result of its five arguments. -/
def outcome (X : FVec Ideal S32x4096x7 .f32) (W : FVec Ideal S73x6x3 .f32) (B : FVec Ideal S73 .f32) (L : FVec Ideal S1x6x3 .f32) (C : FVec Ideal S1 .f32) :
    FVec Ideal S32x4096x512 .f32 :=
  transpose S32x4096x512 [0, 2, 1] (concatenate S32x512x4096 1 [⟨S32x511x4096, (shapeCast _ (addf (addf (addf (addf (broadcastInDim S224x73x4096 ![] bcast_S_S224x73x4096 (constant S_ .f32 0x00000000#32)) (transpose S224x73x4096 [1, 0, 2] (Host.dotGeneral dot_S73x6_S224x6x4096_S73x224x4096_1_1_0_02_n_n none (shapeCast _ (extractStridedSlice S73x6x1 ![0, 0, 0] W slices_S73x6x3_S73x6x1_0_0_0) shapeCasts_S73x6x1_S73x6) (extractStridedSlice S224x6x4096 ![0, 0, 0] ((wrapped (series X))) slices_S224x6x4098_S224x6x4096_0_0_0)) transposes_S73x224x4096_S224x73x4096_1_0_2)) (transpose S224x73x4096 [1, 0, 2] (Host.dotGeneral dot_S73x6_S224x6x4096_S73x224x4096_1_1_0_02_n_n none (shapeCast _ (extractStridedSlice S73x6x1 ![0, 0, 1] W slices_S73x6x3_S73x6x1_0_0_1) shapeCasts_S73x6x1_S73x6) (extractStridedSlice S224x6x4096 ![0, 0, 1] ((wrapped (series X))) slices_S224x6x4098_S224x6x4096_0_0_1)) transposes_S73x224x4096_S224x73x4096_1_0_2)) (transpose S224x73x4096 [1, 0, 2] (Host.dotGeneral dot_S73x6_S224x6x4096_S73x224x4096_1_1_0_02_n_n none (shapeCast _ (extractStridedSlice S73x6x1 ![0, 0, 2] W slices_S73x6x3_S73x6x1_0_0_2) shapeCasts_S73x6x1_S73x6) (extractStridedSlice S224x6x4096 ![0, 0, 2] ((wrapped (series X))) slices_S224x6x4098_S224x6x4096_0_0_2)) transposes_S73x224x4096_S224x73x4096_1_0_2)) (broadcastInDim S224x73x4096 ![0, 1, 2] bcast_S1x73x1_S224x73x4096_0_1_2 (broadcastInDim S1x73x1 ![1] bcast_S73_S1x73x1_1 B))) shapeCasts_S224x73x4096_S32x511x4096)⟩, ⟨S32x1x4096, (addf (addf (addf (addf (broadcastInDim S32x1x4096 ![] bcast_S_S32x1x4096 (constant S_ .f32 0x00000000#32)) (transpose S32x1x4096 [1, 0, 2] (Host.dotGeneral dot_S1x6_S32x6x4096_S1x32x4096_1_1_0_02_n_n none (shapeCast _ (extractStridedSlice S1x6x1 ![0, 0, 0] L slices_S1x6x3_S1x6x1_0_0_0) shapeCasts_S1x6x1_S1x6) (extractStridedSlice S32x6x4096 ![0, 0, 0] ((wrapped1 (lastSeries (series X)))) slices_S32x6x4098_S32x6x4096_0_0_0)) transposes_S1x32x4096_S32x1x4096_1_0_2)) (transpose S32x1x4096 [1, 0, 2] (Host.dotGeneral dot_S1x6_S32x6x4096_S1x32x4096_1_1_0_02_n_n none (shapeCast _ (extractStridedSlice S1x6x1 ![0, 0, 1] L slices_S1x6x3_S1x6x1_0_0_1) shapeCasts_S1x6x1_S1x6) (extractStridedSlice S32x6x4096 ![0, 0, 1] ((wrapped1 (lastSeries (series X)))) slices_S32x6x4098_S32x6x4096_0_0_1)) transposes_S1x32x4096_S32x1x4096_1_0_2)) (transpose S32x1x4096 [1, 0, 2] (Host.dotGeneral dot_S1x6_S32x6x4096_S1x32x4096_1_1_0_02_n_n none (shapeCast _ (extractStridedSlice S1x6x1 ![0, 0, 2] L slices_S1x6x3_S1x6x1_0_0_2) shapeCasts_S1x6x1_S1x6) (extractStridedSlice S32x6x4096 ![0, 0, 2] ((wrapped1 (lastSeries (series X)))) slices_S32x6x4098_S32x6x4096_0_0_2)) transposes_S1x32x4096_S32x1x4096_1_0_2)) (broadcastInDim S32x1x4096 ![0, 1, 2] bcast_S1x1x1_S32x1x4096_0_1_2 (broadcastInDim S1x1x1 ![1] bcast_S1_S1x1x1_1 C)))⟩] concatenates_S32x511x4096_S32x1x4096_S32x512x4096_d1) transposes_S32x512x4096_S32x4096x512_0_2_1

/-- What the reference's run leaves in its result is `outcome` of its arguments. -/
theorem outcome_eq (c : Dev nD) : Cert.ReferenceIdeal.Value.res_main_v79 m c
    = outcome (m ⟨c, main_arg0⟩) (m ⟨c, main_arg1⟩) (m ⟨c, main_arg2⟩) (m ⟨c, main_arg3⟩) (m ⟨c, main_arg4⟩) := by
  unfold Cert.ReferenceIdeal.Value.res_main_v79 outcome wrapped wrapped1 lastSeries series starts places
  rfl

/-- An entry of a series with one more at either end, chosen by where it lies: the series at `u - 1` round the 4096 times. -/
theorem ends (f : Fin 4096 → EReal) (u : Fin 4098) (a : u.val < 1 → Fin 4096) (b : u.val - 1 < 4096 → Fin 4096) (c : ¬ u.val - 1 < 4096 → Fin 4096)
    (ha : ∀ h, (a h).val = 4095 + u.val) (hb : ∀ h, (b h).val = u.val - 1) (hc : ∀ h, (c h).val = u.val - 1 - 4096) :
    (if h : u.val < 1 then f (a h) else if h : u.val - 1 < 4096 then f (b h) else f (c h)) = f ⟨(u.val + 4095) % 4096, Nat.mod_lt _ (by decide)⟩ := by
  have hu := u.isLt
  by_cases h0 : u.val < 1
  · refine (dif_pos h0).trans (congrArg f (Fin.ext ((ha h0).trans ?_)))
    show 4095 + u.val = (u.val + 4095) % 4096
    omega
  · refine (dif_neg h0).trans ?_
    by_cases h1 : u.val - 1 < 4096
    · refine (dif_pos h1).trans (congrArg f (Fin.ext ((hb h1).trans ?_)))
      show u.val - 1 = (u.val + 4095) % 4096
      omega
    · refine (dif_neg h1).trans (congrArg f (Fin.ext ((hc h1).trans ?_)))
      show u.val - 1 - 4096 = (u.val + 4095) % 4096
      omega

/-- The wrapped series at an index. -/
theorem wrapped_apply (T : FVec Ideal S224x6x4096 .f32) (q : Fin 224) (i : Fin 6) (u : Fin 4098) :
    wrapped T (ix3 q i u) = T (ix3 q i ⟨(u.val + 4095) % 4096, Nat.mod_lt _ (by decide)⟩) := by
  unfold wrapped
  pointwise
  exact ends (fun v => T (ix3 q i v)) u (fun h => ⟨4095 + u.val, by omega⟩) (fun h => ⟨u.val - 1, h⟩) (fun h => ⟨u.val - 1 - 4096, by omega⟩) (fun _ => rfl) (fun _ => rfl) (fun _ => rfl)

/-- The last channel's wrapped series at an index. -/
theorem wrapped1_apply (T : FVec Ideal S32x6x4096 .f32) (q : Fin 32) (i : Fin 6) (u : Fin 4098) :
    wrapped1 T (ix3 q i u) = T (ix3 q i ⟨(u.val + 4095) % 4096, Nat.mod_lt _ (by decide)⟩) := by
  unfold wrapped1
  pointwise
  exact ends (fun v => T (ix3 q i v)) u (fun h => ⟨4095 + u.val, by omega⟩) (fun h => ⟨u.val - 1, h⟩) (fun h => ⟨u.val - 1 - 4096, by omega⟩) (fun _ => rfl) (fun _ => rfl) (fun _ => rfl)

/-- The last channel's series at an index: row `7 b + 6` of all of them. -/
theorem lastSeries_apply (T : FVec Ideal S224x6x4096 .f32) (b : Fin 32) (i : Fin 6) (t : Fin 4096) :
    lastSeries T (ix3 b i t) = T (ix3 ⟨b.val * 7 + 6, by omega⟩ i t) := by
  unfold lastSeries
  pointwise

/-- An entry of a series is the tap of its delay: row `7 b + s`, at the time `k` after the one before `t`. -/
theorem series_tap (X : FVec Ideal S32x4096x7 .f32) (b : Fin 32) (s : Fin 7) (i : Fin 6) (k : Fin 3) (t : Fin 4096) (q : Fin 224) (v : Fin 4096)
    (hq : q.val = b.val * 7 + s.val) (hv : v.val = (t.val + k.val + 4095) % 4096) : series X (ix3 q i v) = Conv.tap X b s t i k := by
  rw [series_apply]
  unfold Conv.tap
  have hs := s.isLt
  by_cases h : 15 ≤ v.val
  · refine (if_pos h).trans (Eq.trans ?_ (if_pos (by rw [← hv]; exact h)).symm)
    refine congrArg X ?_
    have e0 : (⟨q.val / 7, by omega⟩ : Fin 32) = b := Fin.ext (by show q.val / 7 = b.val; omega)
    have e2 : (⟨q.val % 7, by omega⟩ : Fin 7) = s := Fin.ext (by show q.val % 7 = s.val; omega)
    have e1 : (⟨v.val - 3 * i.val, by omega⟩ : Fin 4096) = ⟨(t.val + k.val + 4095) % 4096 - 3 * i.val, by omega⟩ := Fin.ext (congrArg (· - 3 * i.val) hv)
    exact (congrArg (fun z => ix3 z _ _) e0).trans ((congrArg (fun z => ix3 b z _) e1).trans (congrArg (fun z => ix3 b _ z) e2))
  · exact (if_neg h).trans (if_neg (by rw [← hv]; exact h)).symm

/-- An entry of the wrapped series, `k` after time `t`, is a tap. -/
theorem wrapped_tap (X : FVec Ideal S32x4096x7 .f32) (b : Fin 32) (s : Fin 7) (i : Fin 6) (k : Fin 3) (t : Fin 4096) (q : Fin 224) (u : Fin 4098)
    (hq : q.val = b.val * 7 + s.val) (hu : u.val = k.val + t.val) : wrapped (series X) (ix3 q i u) = Conv.tap X b s t i k := by
  rw [wrapped_apply]
  refine series_tap X b s i k t q _ hq ?_
  show (u.val + 4095) % 4096 = (t.val + k.val + 4095) % 4096
  rw [hu, Nat.add_comm k.val]

/-- The same for the last channel's wrapped series. -/
theorem wrapped1_tap (X : FVec Ideal S32x4096x7 .f32) (b : Fin 32) (i : Fin 6) (k : Fin 3) (t : Fin 4096) (u : Fin 4098)
    (hu : u.val = k.val + t.val) : wrapped1 (lastSeries (series X)) (ix3 b i u) = Conv.tap X b 6 t i k := by
  rw [wrapped1_apply, lastSeries_apply]
  refine series_tap X b 6 i k t _ _ rfl ?_
  show (u.val + 4095) % 4096 = (t.val + k.val + 4095) % 4096
  rw [hu, Nat.add_comm k.val]

/-- The three offsets' sums are the convolution. -/
theorem conv_three (X : FVec Ideal S32x4096x7 .f32) (w : Fin 6 → Fin 3 → EReal) (b : Fin 32) (s : Fin 7) (t : Fin 4096) (f0 f1 f2 : Fin 6 → EReal)
    (h0 : ∀ i, f0 i = Conv.tap X b s t i 0) (h1 : ∀ i, f1 i = Conv.tap X b s t i 1) (h2 : ∀ i, f2 i = Conv.tap X b s t i 2) :
    (∑ i, w i 0 * f0 i) + (∑ i, w i 1 * f1 i) + (∑ i, w i 2 * f2 i) = Conv.conv X w b s t := by
  unfold Conv.conv
  rw [Fin.sum_univ_three]
  simp only [h0, h1, h2]

/-- THE REFERENCE'S RESULT AT AN INDEX is the convolution's value there. -/
theorem outcome_apply (X : FVec Ideal S32x4096x7 .f32) (W : FVec Ideal S73x6x3 .f32) (B : FVec Ideal S73 .f32) (L : FVec Ideal S1x6x3 .f32) (C : FVec Ideal S1 .f32)
    (b : Fin 32) (t : Fin 4096) (n : Fin 512) : outcome X W B L C (ix3 b t n) = Conv.value X W B L C b t n := by
  have ht := t.isLt
  by_cases h : n.val < 511
  · rw [Conv.value_filter X W B L C b t n h]
    unfold outcome
    pointwise
    refine (dif_pos h).trans (congrArg (· + B (ix1 ⟨n.val % 73, Nat.mod_lt _ (by decide)⟩)) ?_)
    exact conv_three X (fun i k => W (ix3 ⟨n.val % 73, Nat.mod_lt _ (by decide)⟩ i k)) b ⟨n.val / 73, by omega⟩ t _ _ _
      (fun i => wrapped_tap X b ⟨n.val / 73, by omega⟩ i 0 t ⟨b.val * 7 + n.val / 73, by omega⟩ ⟨t.val, by omega⟩ rfl (Nat.zero_add _).symm)
      (fun i => wrapped_tap X b ⟨n.val / 73, by omega⟩ i 1 t ⟨b.val * 7 + n.val / 73, by omega⟩ ⟨1 + t.val, by omega⟩ rfl rfl)
      (fun i => wrapped_tap X b ⟨n.val / 73, by omega⟩ i 2 t ⟨b.val * 7 + n.val / 73, by omega⟩ ⟨2 + t.val, by omega⟩ rfl rfl)
  · rw [Conv.value_last X W B L C b t n h]
    unfold outcome
    pointwise
    refine (dif_neg h).trans (congrArg (· + C (ix1 0)) ?_)
    exact conv_three X (fun i k => L (ix3 0 i k)) b 6 t _ _ _
      (fun i => wrapped1_tap X b i 0 t ⟨t.val, by omega⟩ (Nat.zero_add _).symm)
      (fun i => wrapped1_tap X b i 1 t ⟨1 + t.val, by omega⟩ rfl)
      (fun i => wrapped1_tap X b i 2 t ⟨2 + t.val, by omega⟩ rfl)

end Cert.ReferenceIdeal.Spec
-- ==== Proof.lean ====
/-
  The certificate: the kernel, its ideal reading and the reference all run and leave their arguments alone, and the kernel's one result is the
  reference's, over the extended reals, for every input.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelAt
public import proofs.«01_k».proof.Proof.RefAt
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The kernel's output array is the reference's result of the same arguments: at every index both are the convolution's value. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.Value.res_main_v79 m' c = (Cert.KernelIdeal.Gen.dats m 0 c).arrAt 4 Cert.KernelIdeal.cfg0.N := by
  rw [Cert.KernelIdeal.Tap.final m c, Cert.ReferenceIdeal.Spec.outcome_eq m' c, h0, h1, h2, h3, h4]
  funext i
  obtain ⟨b, t, n, rfl⟩ : ∃ (b : Fin 32) (t : Fin 4096) (n : Fin 512), i = ix3 b t n := ⟨i 0, i 1, i 2, (ix3_eta i).symm⟩
  exact (Cert.ReferenceIdeal.Spec.outcome_apply _ _ _ _ _ b t n).trans (Cert.KernelIdeal.Tap.result_apply m c b t n).symm

/-- The kernel and the reference end with equal results. -/
theorem algebraic : Cert.algebraic_KernelIdeal_ReferenceIdeal := by
  pair_intro
  · run_from Cert.KernelIdeal.Value.run_blocks m g
  · run_from Cert.ReferenceIdeal.Value.run m' g'
    obtain ⟨h0, h1, h2, h3, h4⟩ := hagree c
    exact same m m' c h0 h1 h2 h3 h4

/-- The reference runs, leaves its arguments alone and ends with every counter at zero. -/
theorem reference_runs : Cert.quiescent_ReferenceIdeal := by
  intro m g _
  refine (θ_run Cert.ReferenceIdeal.defs _ _).mono (fun r h => ⟨fun c => (h c).2, ?_⟩) (Cert.ReferenceIdeal.Value.run m g)
  exact sem_eq_zero_of_no_sems (by decide) r.2

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_runs, trivial, algebraic⟩

end Cert.Proof

end
